-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_clear_cells [hKernelIdeal : Cert.KernelIdeal.Facts] [hReferenceIdeal : Cert.ReferenceIdeal.Facts] [hOn_clear_cells : Cert.On_clear_cells.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![16, 11, 127, 127]⟩ : Shape).Idx, (Cert.On_clear_cells.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![16, 11, 127, 127]⟩ : Shape).Idx, (Cert.On_clear_cells.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v38) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_clear_cells : Cert.On_clear_cells.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_clear_cells (hKernelIdeal := hKernelIdeal) (hReferenceIdeal := hReferenceIdeal) (hOn_clear_cells := hOn_clear_cells)
-- ==== On_clear_cells.lean ====
abbrev S16x1x512x512 : Shape := ⟨4, ![16, 1, 512, 512]⟩
abbrev S16x512x512 : Shape := ⟨3, ![16, 512, 512]⟩
abbrev S16x510x510 : Shape := ⟨3, ![16, 510, 510]⟩
abbrev S_ : Shape := ⟨0, ![]⟩
abbrev S16x508x508 : Shape := ⟨3, ![16, 508, 508]⟩
abbrev S16x127x4x127x4 : Shape := ⟨5, ![16, 127, 4, 127, 4]⟩
abbrev S16x127x127 : Shape := ⟨3, ![16, 127, 127]⟩
abbrev S16x1x127x127 : Shape := ⟨4, ![16, 1, 127, 127]⟩
abbrev S16x11x127x127 : Shape := ⟨4, ![16, 11, 127, 127]⟩

class Facts : Prop where
  shapeCasts_S16x1x512x512_S16x512x512 : S16x1x512x512.ShapeCasts S16x512x512
  slices_S16x512x512_S16x510x510_0_1_0 : S16x512x512.Slices ![0, 1, 0] S16x510x510
  slices_S16x512x512_S16x510x510_0_1_2 : S16x512x512.Slices ![0, 1, 2] S16x510x510
  slices_S16x512x512_S16x510x510_0_0_1 : S16x512x512.Slices ![0, 0, 1] S16x510x510
  slices_S16x512x512_S16x510x510_0_2_1 : S16x512x512.Slices ![0, 2, 1] S16x510x510
  bcast_S_S16x510x510 : S_.BroadcastsInDim S16x510x510 (![] : Fin 0 → Fin S16x510x510.rank)
  slices_S16x510x510_S16x508x508_0_0_0 : S16x510x510.Slices ![0, 0, 0] S16x508x508
  shapeCasts_S16x508x508_S16x127x4x127x4 : S16x508x508.ShapeCasts S16x127x4x127x4
  reducesTo_S16x127x4x127x4_S16x127x127_d2_4 : S16x127x4x127x4.ReducesTo [2, 4] S16x127x127
  h_S_ : 0 < S_.numel
  bcast_S16x127x127_S16x1x127x127_0_2_3 : S16x127x127.BroadcastsInDim S16x1x127x127 (![0, 2, 3] : Fin 3 → Fin S16x1x127x127.rank)
  bcast_S16x1x127x127_S16x11x127x127_0_1_2_3 : S16x1x127x127.BroadcastsInDim S16x11x127x127 (![0, 1, 2, 3] : Fin 4 → Fin S16x11x127x127.rank)

variable [Facts]

def fn_part1 {F : FTy → Type} [FloatOps F] (main_v13 : IVec S16x510x510 1) (main_v17 : FVec F S16x510x510 .f32) (main_v19 : FVec F S16x510x510 .f32) : IVec S16x11x127x127 1 :=
  let main_v20 : FVec F S16x510x510 .f32 := Host.floor main_v19
  let main_cst_3 : FVec F S_ .f32 := constant S_ .f32 0x3F800000#32
  let main_v21 : FVec F S16x510x510 .f32 := broadcastInDim S16x510x510 ![] bcast_S_S16x510x510 main_cst_3
  let main_v22 : IVec S16x510x510 1 := cmpf .olt main_v20 main_v21
  let main_cst_4 : FVec F S_ .f32 := constant S_ .f32 0x41200000#32
  let main_v23 : FVec F S16x510x510 .f32 := broadcastInDim S16x510x510 ![] bcast_S_S16x510x510 main_cst_4
  let main_v24 : IVec S16x510x510 1 := cmpf .ogt main_v20 main_v23
  let main_v25 : IVec S16x510x510 1 := ori main_v22 main_v24
  let main_v26 : FVec F S16x510x510 .f32 := subf main_v17 main_v20
  let main_v27 : FVec F S16x510x510 .f32 := Host.absf main_v26
  let main_cst_5 : FVec F S_ .f32 := constant S_ .f32 0x36800000#32
  let main_v28 : FVec F S16x510x510 .f32 := broadcastInDim S16x510x510 ![] bcast_S_S16x510x510 main_cst_5
  let main_v29 : IVec S16x510x510 1 := cmpf .oge main_v27 main_v28
  let main_v30 : IVec S16x510x510 1 := ori main_v25 main_v29
  let main_v31 : IVec S16x510x510 1 := andi main_v13 main_v30
  let main_v32 : IVec S16x508x508 1 := (extractStridedSlice S16x508x508 ![0, 0, 0] · slices_S16x510x510_S16x508x508_0_0_0) main_v31
  let main_v33 : IVec S16x127x4x127x4 1 := shapeCast S16x127x4x127x4 main_v32 shapeCasts_S16x508x508_S16x127x4x127x4
  let main_c : IVec S_ 1 := constantI S_ 1 1#1
  let main_v34 : IVec S16x127x127 1 := (fun x v => Host.reduce IntOp.andi x v reducesTo_S16x127x4x127x4_S16x127x127_d2_4 h_S_) main_v33 main_c
  let main_v35 : IVec S16x1x127x127 1 := broadcastInDim S16x1x127x127 ![0, 2, 3] bcast_S16x127x127_S16x1x127x127_0_2_3 main_v34
  let main_v36 : IVec S16x11x127x127 1 := broadcastInDim S16x11x127x127 ![0, 1, 2, 3] bcast_S16x1x127x127_S16x11x127x127_0_1_2_3 main_v35
  main_v36

def fn {F : FTy → Type} [FloatOps F] (main_arg0 : FVec F S16x1x512x512 .f32) : IVec S16x11x127x127 1 :=
  let main_v0 : FVec F S16x512x512 .f32 := shapeCast S16x512x512 main_arg0 shapeCasts_S16x1x512x512_S16x512x512
  let main_v1 : FVec F S16x510x510 .f32 := (extractStridedSlice S16x510x510 ![0, 1, 0] · slices_S16x512x512_S16x510x510_0_1_0) main_v0
  let main_v2 : FVec F S16x510x510 .f32 := (extractStridedSlice S16x510x510 ![0, 1, 2] · slices_S16x512x512_S16x510x510_0_1_2) main_v0
  let main_v3 : FVec F S16x510x510 .f32 := subf main_v1 main_v2
  let main_v4 : FVec F S16x510x510 .f32 := (extractStridedSlice S16x510x510 ![0, 0, 1] · slices_S16x512x512_S16x510x510_0_0_1) main_v0
  let main_v5 : FVec F S16x510x510 .f32 := (extractStridedSlice S16x510x510 ![0, 2, 1] · slices_S16x512x512_S16x510x510_0_2_1) main_v0
  let main_v6 : FVec F S16x510x510 .f32 := subf main_v4 main_v5
  let main_v7 : FVec F S16x510x510 .f32 := Host.absf main_v3
  let main_cst : FVec F S_ .f32 := constant S_ .f32 0x7F800000#32
  let main_v8 : FVec F S16x510x510 .f32 := broadcastInDim S16x510x510 ![] bcast_S_S16x510x510 main_cst
  let main_v9 : IVec S16x510x510 1 := cmpf .olt main_v7 main_v8
  let main_v10 : FVec F S16x510x510 .f32 := Host.absf main_v6
  let main_cst_0 : FVec F S_ .f32 := constant S_ .f32 0x7F800000#32
  let main_v11 : FVec F S16x510x510 .f32 := broadcastInDim S16x510x510 ![] bcast_S_S16x510x510 main_cst_0
  let main_v12 : IVec S16x510x510 1 := cmpf .olt main_v10 main_v11
  let main_v13 : IVec S16x510x510 1 := andi main_v9 main_v12
  let main_v14 : FVec F S16x510x510 .f32 := Host.atan2 main_v3 main_v6
  let main_v15 : FVec F S16x510x510 .f32 := Host.absf main_v14
  let main_cst_1 : FVec F S_ .f32 := constant S_ .f32 0x40601715#32
  let main_v16 : FVec F S16x510x510 .f32 := broadcastInDim S16x510x510 ![] bcast_S_S16x510x510 main_cst_1
  let main_v17 : FVec F S16x510x510 .f32 := mulf main_v15 main_v16
  let main_cst_2 : FVec F S_ .f32 := constant S_ .f32 0x3F000000#32
  let main_v18 : FVec F S16x510x510 .f32 := broadcastInDim S16x510x510 ![] bcast_S_S16x510x510 main_cst_2
  let main_v19 : FVec F S16x510x510 .f32 := addf main_v17 main_v18
  fn_part1 (F := F) main_v13 main_v17 main_v19
-- ==== Kernel.lean ====
abbrev S16x1x512x512 : Shape := ⟨4, ![16, 1, 512, 512]⟩
abbrev S16x11x127x127 : Shape := ⟨4, ![16, 11, 127, 127]⟩
abbrev S1x1x512x512 : Shape := ⟨4, ![1, 1, 512, 512]⟩
abbrev S1x11x127x127 : Shape := ⟨4, ![1, 11, 127, 127]⟩
abbrev S5632x512 : Shape := ⟨2, ![5632, 512]⟩
abbrev S512x512 : Shape := ⟨2, ![512, 512]⟩
abbrev S16x512 : Shape := ⟨2, ![16, 512]⟩
abbrev S512x127 : Shape := ⟨2, ![512, 127]⟩
abbrev S127x512 : Shape := ⟨2, ![127, 512]⟩
abbrev S5632x127 : Shape := ⟨2, ![5632, 127]⟩
abbrev S127x127 : Shape := ⟨2, ![127, 127]⟩
abbrev S1x1x127x127 : Shape := ⟨4, ![1, 1, 127, 127]⟩

abbrev nBuf : Space → Nat
  | .hbm => 2
  | .vmem => 7
  | .smem => 0
  | _ => 0

abbrev bufTy : (tb : Table) → Fin (tcTables nBuf tb) → BufTy
  | .hbm, ⟨0, _⟩ => ⟨S16x1x512x512, .f32⟩
  | .hbm, ⟨1, _⟩ => ⟨S16x11x127x127, .f32⟩
  | .local _ .vmem, ⟨0, _⟩ => ⟨S1x1x512x512, .f32⟩
  | .local _ .vmem, ⟨1, _⟩ => ⟨S1x1x512x512, .f32⟩
  | .local _ .vmem, ⟨2, _⟩ => ⟨S1x11x127x127, .f32⟩
  | .local _ .vmem, ⟨3, _⟩ => ⟨S1x11x127x127, .f32⟩
  | .local _ .vmem, ⟨4, _⟩ => ⟨S5632x512, .bf16⟩
  | .local _ .vmem, ⟨5, _⟩ => ⟨S512x512, .f32⟩
  | .local _ .vmem, ⟨6, _⟩ => ⟨S512x512, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v26 : BitVec 32 := Scalar.addi c0_i32 c32_i32
  let c1_i32_13 : BitVec 32 := 1#32
  ⟨c0_i32, v26, c1_i32_13⟩
def k0_off1 (k0_t1 : Fin k0_t1_loop.trips) : Fin 2 → Nat :=
  let c0_i32 : BitVec 32 := 0#32
  let c1_i32_13 : BitVec 32 := 1#32
  let arg6 : BitVec 32 := Scf.iv c0_i32 c1_i32_13 k0_t1
  let c16_i32 : BitVec 32 := 16#32
  let v163 : BitVec 32 := Scalar.muli arg6 c16_i32
  let v164 : Index := Scalar.indexCast v163
  let c0_87 : Index := 0#32
  ![v164.toNat, 0]
def k0_off2 (k0_t1 : Fin k0_t1_loop.trips) (c0_i32_120 : BitVec 32) : Fin 2 → Nat :=
  let c0_i32 : BitVec 32 := 0#32
  let c1_i32_13 : BitVec 32 := 1#32
  let arg6 : BitVec 32 := Scf.iv c0_i32 c1_i32_13 k0_t1
  let c16_i32_119 : BitVec 32 := 16#32
  let v259 : BitVec 32 := Scalar.muli arg6 c16_i32_119
  let v260 : BitVec 32 := Scalar.addi c0_i32_120 v259
  let v261 : Index := Scalar.indexCast v260
  let c0_121 : Index := 0#32
  ![v261.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x11x127x127 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x1x512x512 : Shape := ⟨4, ![16, 1, 512, 512]⟩
abbrev S16x512x512 : Shape := ⟨3, ![16, 512, 512]⟩
abbrev S16x510x510 : Shape := ⟨3, ![16, 510, 510]⟩
abbrev S_ : Shape := ⟨0, ![]⟩
abbrev S16x1x510x510 : Shape := ⟨4, ![16, 1, 510, 510]⟩
abbrev S1x11x1x1 : Shape := ⟨4, ![1, 11, 1, 1]⟩
abbrev S16x11x510x510 : Shape := ⟨4, ![16, 11, 510, 510]⟩
abbrev S16x11x508x508 : Shape := ⟨4, ![16, 11, 508, 508]⟩
abbrev S16x11x127x4x127x4 : Shape := ⟨6, ![16, 11, 127, 4, 127, 4]⟩
abbrev S16x11x127x127 : Shape := ⟨4, ![16, 11, 127, 127]⟩

abbrev nBuf : Space → Nat
  | .hbm => 98
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S16x512x512, .f32⟩
  | .hbm, ⟨2, _⟩ => ⟨S16x510x510, .f32⟩
  | .hbm, ⟨3, _⟩ => ⟨S16x510x510, .f32⟩
  | .hbm, ⟨4, _⟩ => ⟨S16x510x510, .f32⟩
  | .hbm, ⟨5, _⟩ => ⟨S16x510x510, .f32⟩
  | .hbm, ⟨6, _⟩ => ⟨S16x510x510, .f32⟩
  | .hbm, ⟨7, _⟩ => ⟨S16x510x510, .f32⟩
  | .hbm, ⟨8, _⟩ => ⟨S16x510x510, .f32⟩
  | .hbm, ⟨9, _⟩ => ⟨S16x510x510, .f32⟩
  | .hbm, ⟨10, _⟩ => ⟨S16x510x510, .f32⟩
  | .hbm, ⟨11, _⟩ => ⟨S16x510x510, .f32⟩
  | .hbm, ⟨12, _⟩ => ⟨S16x510x510, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x510x510, .f32⟩
  | .hbm, ⟨17, _⟩ => ⟨S16x510x510, .f32⟩
  | .hbm, ⟨18, _⟩ => ⟨S_, .f32⟩
  | .hbm, ⟨19, _⟩ => ⟨S16x510x510, .f32⟩
  | .hbm, ⟨20, _⟩ => ⟨S16x510x510, .f32⟩
  | .hbm, ⟨21, _⟩ => ⟨S16x510x510, .f32⟩
  | .hbm, ⟨22, _⟩ => ⟨S16x510x510, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S16x510x510, .i32⟩
  | .hbm, ⟨30, _⟩ => ⟨S16x510x510, .i32⟩
  | .hbm, ⟨31, _⟩ => ⟨S_, .i32⟩
  | .hbm, ⟨32, _⟩ => ⟨S16x510x510, .i32⟩
  | .hbm, ⟨33, _⟩ => ⟨S16x510x510, .i1⟩
  | .hbm, ⟨34, _⟩ => ⟨S_, .i32⟩
  | .hbm, ⟨35, _⟩ => ⟨S16x510x510, .i32⟩
  | .hbm, ⟨36, _⟩ => ⟨S16x510x510, .i1⟩
  | .hbm, ⟨37, _⟩ => ⟨S_, .i32⟩
  | .hbm, ⟨38, _⟩ => ⟨S_, .i1⟩
  | .hbm, ⟨39, _⟩ => ⟨S16x510x510, .i1⟩
  | .hbm, ⟨40, _⟩ => ⟨S16x510x510, .i1⟩
  | .hbm, ⟨41, _⟩ => ⟨S16x510x510, .i1⟩
  | .hbm, ⟨42, _⟩ => ⟨S16x510x510, .i32⟩
  | .hbm, ⟨43, _⟩ => ⟨S16x510x510, .i32⟩
  | .hbm, ⟨44, _⟩ => ⟨S16x510x510, .i32⟩
  | .hbm, ⟨45, _⟩ => ⟨S16x510x510, .f32⟩
  | .hbm, ⟨46, _⟩ => ⟨S16x510x510, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S16x510x510, .i32⟩
  | .hbm, ⟨54, _⟩ => ⟨S16x510x510, .i32⟩
  | .hbm, ⟨55, _⟩ => ⟨S_, .i32⟩
  | .hbm, ⟨56, _⟩ => ⟨S16x510x510, .i32⟩
  | .hbm, ⟨57, _⟩ => ⟨S16x510x510, .i1⟩
  | .hbm, ⟨58, _⟩ => ⟨S_, .i32⟩
  | .hbm, ⟨59, _⟩ => ⟨S16x510x510, .i32⟩
  | .hbm, ⟨60, _⟩ => ⟨S16x510x510, .i1⟩
  | .hbm, ⟨61, _⟩ => ⟨S_, .i32⟩
  | .hbm, ⟨62, _⟩ => ⟨S_, .i1⟩
  | .hbm, ⟨63, _⟩ => ⟨S16x510x510, .i1⟩
  | .hbm, ⟨64, _⟩ => ⟨S16x510x510, .i1⟩
  | .hbm, ⟨65, _⟩ => ⟨S16x510x510, .i1⟩
  | .hbm, ⟨66, _⟩ => ⟨S16x510x510, .i32⟩
  | .hbm, ⟨67, _⟩ => ⟨S16x510x510, .i32⟩
  | .hbm, ⟨68, _⟩ => ⟨S16x510x510, .i32⟩
  | .hbm, ⟨69, _⟩ => ⟨S16x1x510x510, .i32⟩
  | .hbm, ⟨70, _⟩ => ⟨S1x11x1x1, .i32⟩
  | .hbm, ⟨71, _⟩ => ⟨S16x11x510x510, .i32⟩
  | .hbm, ⟨72, _⟩ => ⟨S16x11x510x510, .i32⟩
  | .hbm, ⟨73, _⟩ => ⟨S16x11x510x510, .i1⟩
  | .hbm, ⟨74, _⟩ => ⟨S16x11x510x510, .f32⟩
  | .hbm, ⟨75, _⟩ => ⟨S16x1x510x510, .i32⟩
  | .hbm, ⟨76, _⟩ => ⟨S1x11x1x1, .i32⟩
  | .hbm, ⟨77, _⟩ => ⟨S16x11x510x510, .i32⟩
  | .hbm, ⟨78, _⟩ => ⟨S16x11x510x510, .i32⟩
  | .hbm, ⟨79, _⟩ => ⟨S16x11x510x510, .i1⟩
  | .hbm, ⟨80, _⟩ => ⟨S16x11x510x510, .f32⟩
  | .hbm, ⟨81, _⟩ => ⟨S16x1x510x510, .f32⟩
  | .hbm, ⟨82, _⟩ => ⟨S16x11x510x510, .f32⟩
  | .hbm, ⟨83, _⟩ => ⟨S16x11x510x510, .f32⟩
  | .hbm, ⟨84, _⟩ => ⟨S_, .f32⟩
  | .hbm, ⟨85, _⟩ => ⟨S16x510x510, .f32⟩
  | .hbm, ⟨86, _⟩ => ⟨S16x510x510, .f32⟩
  | .hbm, ⟨87, _⟩ => ⟨S16x1x510x510, .f32⟩
  | .hbm, ⟨88, _⟩ => ⟨S16x11x510x510, .f32⟩
  | .hbm, ⟨89, _⟩ => ⟨S16x11x510x510, .f32⟩
  | .hbm, ⟨90, _⟩ => ⟨S16x11x510x510, .f32⟩
  | .hbm, ⟨91, _⟩ => ⟨S16x11x508x508, .f32⟩
  | .hbm, ⟨92, _⟩ => ⟨S16x11x127x4x127x4, .f32⟩
  | .hbm, ⟨93, _⟩ => ⟨S_, .f32⟩
  | .hbm, ⟨94, _⟩ => ⟨S16x11x127x127, .f32⟩
  | .hbm, ⟨95, _⟩ => ⟨S_, .f32⟩
  | .hbm, ⟨96, _⟩ => ⟨S16x11x127x127, .f32⟩
  | .hbm, ⟨97, _⟩ => ⟨S16x11x127x127, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_2 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v22 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v23 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst_3 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_cst_4 : Ref sig .tc := ⟨.hbm, 93, rfl⟩
abbrev main_v36 : Ref sig .tc := ⟨.hbm, 94, rfl⟩
abbrev main_cst_5 : Ref sig .tc := ⟨.hbm, 95, rfl⟩
abbrev main_v37 : Ref sig .tc := ⟨.hbm, 96, rfl⟩
abbrev main_v38 : Ref sig .tc := ⟨.hbm, 97, rfl⟩

abbrev nD : Nat := 1
abbrev τ : Topo := Topo.v7x

variable {F : FTy → Type} [FloatOps F]
-- ==== Proof.Angle.lean ====
module

public import Mathlib.Analysis.SpecialFunctions.Trigonometric.Arctan
public import Mathlib.Analysis.SpecialFunctions.ExpDeriv
public import Mathlib.Analysis.Calculus.MeanValue
public import Mathlib.Analysis.Calculus.Deriv.Pow
public import Mathlib.Analysis.Calculus.Deriv.Inv
public import Mathlib.Tactic.Linarith
public import Mathlib.Tactic.Positivity
public import Mathlib.Tactic.NormNum
public import Mathlib.Tactic.FieldSimp
public import Mathlib.Tactic.Ring

@[expose] public section

noncomputable section

/-! # The polynomial for the angle

The kernel measures angles in bins, eleven to a half turn, and evaluates `11/π · arctan t` on `[0, 1]` by an odd
polynomial of degree 13. This module bounds its error by `2.5e-6` bins. The road: a polynomial of degree 19 whose
derivative is `1/(1 + t²)` up to a multiple of a Chebyshev polynomial is close to `arctan`, and the kernel's polynomial
minus that one is a combination of Chebyshev polynomials with small coefficients. -/

namespace Cert.Hog

/-- The Chebyshev polynomials, by their recurrence. -/
def cheb : ℕ → ℝ → ℝ
  | 0, _ => 1
  | 1, t => t
  | n + 2, t => 2 * t * cheb (n + 1) t - cheb n t

/-- At a cosine they are the cosines of the multiples. -/
theorem cheb_cos (θ : ℝ) : ∀ n : ℕ, cheb n (Real.cos θ) = Real.cos (n * θ)
  | 0 => by simp [cheb]
  | 1 => by simp [cheb]
  | n + 2 => by
    rw [cheb, cheb_cos θ (n + 1), cheb_cos θ n]
    have h1 : ((n + 2 : ℕ) : ℝ) * θ = ((n + 1 : ℕ) : ℝ) * θ + θ := by push_cast; ring
    have h2 : (n : ℝ) * θ = ((n + 1 : ℕ) : ℝ) * θ - θ := by push_cast; ring
    rw [h1, h2, Real.cos_add, Real.cos_sub]; ring

/-- So on `[-1, 1]` they are at most one in size. -/
theorem abs_cheb_le (n : ℕ) {t : ℝ} (h0 : -1 ≤ t) (h1 : t ≤ 1) : |cheb n t| ≤ 1 := by
  rw [← Real.cos_arccos h0 h1, cheb_cos]; exact Real.abs_cos_le_one _

/-- The kernel's polynomial in `u = t²`, with the rationals that its float coefficients are. -/
def coeff (u : ℝ) : ℝ :=
  (((((7188705/268435456 * u + -8543813/67108864) * u + 9766343/33554432) * u + -15799597/33554432) * u
    + 5836805/8388608) * u + -611775/524288) * u + 14685961/4194304

/-- The kernel's angle in bins of a slope `t` in `[0, 1]`. -/
def poly (t : ℝ) : ℝ := coeff (t * t) * t

/-- A polynomial that is nearly `arctan` on `[0, 1]`. -/
def near (t : ℝ) : ℝ :=
  (22619536/22619537) * t^1 + (-22619336/67858611) * t^3 + (22612736/113097685) * t^5
  + (-22528256/158336759) * t^7 + (21979136/203575833) * t^9 + (-19929088/248814907) * t^11
  + (15269888/294053981) * t^13 + (-8716288/339293055) * t^15 + (3145728/384532129) * t^17
  + (-524288/429771203) * t^19

/-- Its derivative. -/
def near' (t : ℝ) : ℝ :=
  (22619536/22619537) + (-22619336/22619537) * t^2 + (22612736/22619537) * t^4 + (-22528256/22619537) * t^6
  + (21979136/22619537) * t^8 + (-19929088/22619537) * t^10 + (15269888/22619537) * t^12
  + (-8716288/22619537) * t^14 + (3145728/22619537) * t^16 + (-524288/22619537) * t^18

theorem near_hasDeriv (t : ℝ) : HasDerivAt near (near' t) t := by
  have h : ∀ n : ℕ, HasDerivAt (fun x : ℝ => x ^ n) (n * t ^ (n - 1)) t := fun n => hasDerivAt_pow n t
  have := (((((((((((h 1).const_mul (22619536/22619537 : ℝ)).add
     ((h 3).const_mul (-22619336/67858611 : ℝ))).add
     ((h 5).const_mul (22612736/113097685 : ℝ))).add
     ((h 7).const_mul (-22528256/158336759 : ℝ))).add
     ((h 9).const_mul (21979136/203575833 : ℝ))).add
     ((h 11).const_mul (-19929088/248814907 : ℝ))).add
     ((h 13).const_mul (15269888/294053981 : ℝ))).add
     ((h 15).const_mul (-8716288/339293055 : ℝ))).add
     ((h 17).const_mul (3145728/384532129 : ℝ))).add
     ((h 19).const_mul (-524288/429771203 : ℝ)))
  refine HasDerivAt.congr_deriv this ?_
  unfold near'
  norm_num
  ring

/-- The derivative misses `1/(1 + t²)` by a multiple of the Chebyshev polynomial of degree 20. -/
theorem near'_eq (t : ℝ) : (1 + t ^ 2) * near' t = 1 - cheb 20 t / 22619537 := by
  simp only [cheb, near']; ring

theorem sin_deriv (x : ℝ) : HasDerivAt Real.sin (Real.cos x) x := by
  have h : HasDerivAt (fun z : ℂ => -Complex.I * Complex.exp (z * Complex.I))
      (-Complex.I * (Complex.exp (x * Complex.I) * (1 * Complex.I))) (x : ℂ) :=
    (((hasDerivAt_id (x : ℂ)).mul_const Complex.I).cexp).const_mul _
  have h2 := h.real_of_complex
  convert h2 using 1
  · funext y; simp [Complex.exp_ofReal_mul_I_im]
  · simp [Complex.exp_ofReal_mul_I_re]

theorem cos_deriv (x : ℝ) : HasDerivAt Real.cos (-Real.sin x) x := by
  have h : HasDerivAt (fun z : ℂ => Complex.exp (z * Complex.I))
      (Complex.exp (x * Complex.I) * (1 * Complex.I)) (x : ℂ) :=
    ((hasDerivAt_id (x : ℂ)).mul_const Complex.I).cexp
  have h2 := h.real_of_complex
  convert h2 using 1
  · funext y; simp [Complex.exp_ofReal_mul_I_re]
  · simp [Complex.exp_ofReal_mul_I_im]

theorem tan_deriv {x : ℝ} (h : Real.cos x ≠ 0) : HasDerivAt Real.tan (1 + Real.tan x ^ 2) x := by
  have h2 := (sin_deriv x).div (cos_deriv x) h
  have e : (Real.tan : ℝ → ℝ) = Real.sin / Real.cos := by funext y; simp [Real.tan_eq_sin_div_cos]
  rw [e]
  refine h2.congr_deriv ?_
  rw [Pi.div_apply]
  field_simp
  ring

theorem near_sub_arctan {t : ℝ} (h0 : 0 ≤ t) (h1 : t ≤ 1) : |near t - Real.arctan t| ≤ 1 / 22619537 := by
  have ha0 : 0 ≤ Real.arctan t := Real.arctan_nonneg.2 h0
  have ha1 : Real.arctan t ≤ Real.pi / 4 := by
    rw [← Real.arctan_one]; exact Real.arctan_strictMono.monotone h1
  have hpi := Real.pi_pos
  have hpi4 := Real.pi_le_four
  have hr : ∀ x ∈ Set.Icc (0 : ℝ) (Real.pi / 4), Real.cos x ≠ 0 ∧ 0 ≤ Real.tan x ∧ Real.tan x ≤ 1 := fun x hx => by
    have hc : 0 < Real.cos x := Real.cos_pos_of_mem_Ioo ⟨by linarith [hx.1], by linarith [hx.2]⟩
    refine ⟨hc.ne', Real.tan_nonneg_of_nonneg_of_le_pi_div_two hx.1 (by linarith [hx.2]), ?_⟩
    rw [← Real.tan_pi_div_four]
    exact Real.strictMonoOn_tan.monotoneOn ⟨by linarith [hx.1], by linarith [hx.2]⟩ ⟨by linarith, by linarith⟩ hx.2
  have hd : ∀ x ∈ Set.Icc (0 : ℝ) (Real.pi / 4), HasDerivWithinAt (fun x => near (Real.tan x) - x)
      (near' (Real.tan x) * (1 + Real.tan x ^ 2) - 1) (Set.Icc 0 (Real.pi / 4)) x := fun x hx =>
    (((near_hasDeriv (Real.tan x)).comp x (tan_deriv (hr x hx).1)).sub (hasDerivAt_id x)).hasDerivWithinAt
  have hb : ∀ x ∈ Set.Icc (0 : ℝ) (Real.pi / 4), ‖near' (Real.tan x) * (1 + Real.tan x ^ 2) - 1‖ ≤ 1 / 22619537 :=
    fun x hx => by
    obtain ⟨_, p0, p1⟩ := hr x hx
    have hc := abs_le.1 (abs_cheb_le 20 (by linarith) p1)
    rw [mul_comm, near'_eq, Real.norm_eq_abs, abs_le]
    constructor <;> linarith
  have h := (convex_Icc (0 : ℝ) (Real.pi / 4)).norm_image_sub_le_of_norm_hasDerivWithin_le hd hb
    (Set.left_mem_Icc.2 (by positivity)) ⟨ha0, ha1⟩
  have hz : near (Real.tan 0) - 0 = 0 := by simp [near]
  simp only [hz, sub_zero, Real.norm_eq_abs, abs_of_nonneg ha0, Real.tan_arctan] at h
  have : Real.arctan t ≤ 1 := by linarith
  linarith [mul_le_mul_of_nonneg_left this (by norm_num : (0 : ℝ) ≤ 1 / 22619537)]

/-- The number `π`, to six digits. -/
theorem pi_near : |Real.pi - 31415926535898 / 10 ^ 13| ≤ 18 / 10 ^ 8 := by
  have h := abs_le.1 (near_sub_arctan (t := 1) (by norm_num) le_rfl)
  rw [Real.arctan_one] at h
  norm_num [near] at h
  rw [abs_le]; constructor <;> linarith

/-- Eleven over `π`. -/
theorem eleven_div_pi : |11 / Real.pi - 350140874802 / 10 ^ 11| ≤ 2 / 10 ^ 7 + 1 / 10 ^ 8 := by
  have h := abs_le.1 pi_near
  have hp := Real.pi_pos
  rw [abs_le]
  constructor
  · rw [neg_le_sub_iff_le_add, ← sub_le_iff_le_add, le_div_iff₀ hp]; nlinarith
  · rw [sub_le_iff_le_add, div_le_iff₀ hp]; nlinarith

/-- The kernel's polynomial minus `11/π` times the near one, in Chebyshev polynomials. -/
theorem poly_expand (t : ℝ) : poly t - 350140874802 / 10 ^ 11 * near t =
    (-19597880752323315503/303594286455193600000000000) * cheb 1 t
    + (12232272456229098811/1214377145820774400000000000) * cheb 3 t
    + (20957524830421436539/6071885729103872000000000000) * cheb 5 t
    + (-11736040718942918771/4250320010372710400000000000) * cheb 7 t
    + (35830692124360194473/1821565718731161600000000000) * cheb 9 t
    + (-1711661089812274522861/13358148604028518400000000000) * cheb 11 t
    + (13361522430043355110953/15786902895670067200000000000) * cheb 13 t
    + (2392629311147/2827442125000000000) * cheb 15 t
    + (-1225493061807/9613303225000000000) * cheb 17 t
    + (175070437401/10744280075000000000) * cheb 19 t := by
  simp only [cheb, poly, coeff, near]; ring

/-- THE ERROR of the kernel's angle is below `2.5e-6` bins. -/
theorem poly_close {t : ℝ} (h0 : 0 ≤ t) (h1 : t ≤ 1) : |poly t - 11 / Real.pi * Real.arctan t| ≤ 25 / 10 ^ 7 := by
  have hm : -1 ≤ t := by linarith
  have c1 := abs_le.1 (abs_cheb_le 1 hm h1)
  have c3 := abs_le.1 (abs_cheb_le 3 hm h1)
  have c5 := abs_le.1 (abs_cheb_le 5 hm h1)
  have c7 := abs_le.1 (abs_cheb_le 7 hm h1)
  have c9 := abs_le.1 (abs_cheb_le 9 hm h1)
  have c11 := abs_le.1 (abs_cheb_le 11 hm h1)
  have c13 := abs_le.1 (abs_cheb_le 13 hm h1)
  have c15 := abs_le.1 (abs_cheb_le 15 hm h1)
  have c17 := abs_le.1 (abs_cheb_le 17 hm h1)
  have c19 := abs_le.1 (abs_cheb_le 19 hm h1)
  have e := poly_expand t
  have hP : |poly t - 350140874802 / 10 ^ 11 * near t| ≤ 207 / 10 ^ 8 := by
    rw [e, abs_le]; constructor <;> linarith
  have hN := near_sub_arctan h0 h1
  have ha0 : 0 ≤ Real.arctan t := Real.arctan_nonneg.2 h0
  have ha1 : Real.arctan t ≤ 8 / 10 := by
    have := Real.arctan_strictMono.monotone h1
    rw [Real.arctan_one] at this
    linarith [(abs_le.1 pi_near).2]
  have hK : |(11 / Real.pi - 350140874802 / 10 ^ 11) * Real.arctan t| ≤ 17 / 10 ^ 8 := by
    rw [abs_mul, abs_of_nonneg ha0]
    calc _ ≤ (2 / 10 ^ 7 + 1 / 10 ^ 8) * (8 / 10 : ℝ) := mul_le_mul eleven_div_pi ha1 ha0 (by norm_num)
      _ ≤ _ := by norm_num
  have hK' := abs_le.1 hK
  have hN' := abs_le.1 hN
  have hP' := abs_le.1 hP
  rw [abs_le]; constructor <;> linarith

/-- The kernel's angle of a positive slope is positive: bin boundary 0 is met exactly. -/
theorem poly_pos {t : ℝ} (h0 : 0 < t) (h1 : t ≤ 1) : 0 < poly t := by
  have hu0 : 0 < t * t := by positivity
  have hu1 : t * t ≤ 1 := by nlinarith
  refine mul_pos ?_ h0
  unfold coeff
  generalize t * t = u at hu0 hu1
  have e : (((((7188705/268435456 * u + -8543813/67108864) * u + 9766343/33554432) * u + -15799597/33554432) * u
    + 5836805/8388608) * u + -611775/524288) * u + 14685961/4194304
    = (7188705/268435456) * u ^ 6 + u ^ 4 * (9766343/33554432 - 8543813/67108864 * u)
      + u ^ 2 * (5836805/8388608 - 15799597/33554432 * u) + (14685961/4194304 - 611775/524288 * u) := by ring
  rw [e]
  have a1 : 0 < 9766343/33554432 - 8543813/67108864 * u := by linarith
  have a2 : 0 < 5836805/8388608 - 15799597/33554432 * u := by linarith
  have a3 : 0 < 14685961/4194304 - 611775/524288 * u := by linarith
  positivity

theorem poly_zero : poly 0 = 0 := by simp [poly]

end Cert.Hog

end
-- ==== Proof.Bins.lean ====
module

public import proofs.«01_k».proof.Proof.Angle

@[expose] public section

noncomputable section

/-! # The bins of a gradient, over the reals

`ang y x` is the angle of the point `(x, y)`, and `bins y x` that angle in bins. The kernel reaches them through the
smaller of the two slopes and a polynomial (`rot`): the two differ by at most `2.5e-6` bins, and have the same floor
and the same ceiling where the angle keeps its distance from the inner bin boundaries. -/

namespace Cert.Hog

/-- The angle of the point `(x, y)`, in `(-π, π]`. -/
def ang (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

/-- The angle in bins, eleven to a half turn. -/
def bins (y x : ℝ) : ℝ := ang y x / Real.pi * 11

/-- The smaller gradient over the greater. -/
def slope (a b : ℝ) : ℝ := min a b / (if 0 < max a b then max a b else 1)

/-- The kernel's unsigned angle in bins of the first quadrant. -/
def quad (a b : ℝ) : ℝ := if b < a then 11 / 2 - poly (slope a b) else poly (slope a b)

/-- The kernel's unsigned angle in bins. -/
def rot (y x : ℝ) : ℝ := if x < 0 then 11 - quad |y| |x| else quad |y| |x|

/-- The kernel's angle in bins. -/
def turn (y x : ℝ) : ℝ := if y < 0 then -rot y x else rot y x

/-- The exact angle of the first quadrant. -/
def quart (a b : ℝ) : ℝ :=
  if b < a then Real.pi / 2 - Real.arctan (slope a b) else Real.arctan (slope a b)

theorem slope_nonneg {a b : ℝ} (ha : 0 ≤ a) (hb : 0 ≤ b) : 0 ≤ slope a b := by
  unfold slope
  split
  · next h => exact div_nonneg (le_min ha hb) h.le
  · exact div_nonneg (le_min ha hb) zero_le_one

theorem slope_le_one {a b : ℝ} (ha : 0 ≤ a) (hb : 0 ≤ b) : slope a b ≤ 1 := by
  unfold slope
  split
  · next h => rw [div_le_one h]; exact min_le_max
  · next h =>
    rw [div_one]
    exact (min_le_max.trans (not_lt.1 h)).trans zero_le_one

/-- Where the vertical gradient is the smaller one the slope is the quotient. -/
theorem slope_of_le {a b : ℝ} (hb : 0 < b) (h : a ≤ b) : slope a b = a / b := by
  unfold slope; rw [min_eq_left h, max_eq_right h, if_pos hb]

theorem slope_of_lt {a b : ℝ} (ha : 0 < a) (h : b < a) : slope a b = b / a := by
  unfold slope; rw [min_eq_right h.le, max_eq_left h.le, if_pos ha]

/-- The exact angle of the first quadrant is the arctangent of the quotient. -/
theorem quart_eq {a b : ℝ} (ha : 0 ≤ a) (hb : 0 < b) : quart a b = Real.arctan (a / b) := by
  unfold quart
  split
  · next h =>
    have ha' : 0 < a := hb.trans h
    rw [slope_of_lt ha' h, ← inv_div b a, Real.arctan_inv_of_pos (div_pos hb ha')]
  · next h => rw [slope_of_le hb (not_lt.1 h)]

theorem quart_zero {a : ℝ} (ha : 0 ≤ a) : quart a 0 = if 0 < a then Real.pi / 2 else 0 := by
  unfold quart
  split
  · next h => rw [slope_of_lt h h]; simp
  · next h =>
    have : a = 0 := le_antisymm (not_lt.1 h) ha
    subst this; simp [slope]

/-- The size of the angle, by the quadrant of the first coordinate. -/
theorem abs_ang (y x : ℝ) : |ang y x| = if x < 0 then Real.pi - quart |y| |x| else quart |y| |x| := by
  have hp := Real.pi_pos
  rcases lt_trichotomy x 0 with hx | hx | hx
  · rw [if_pos hx, quart_eq (abs_nonneg y) (abs_pos.2 hx.ne)]
    unfold ang
    rw [if_neg hx.le.not_gt, if_pos hx]
    have hb := Real.arctan_lt_pi_div_two (|y| / |x|)
    split
    · next h =>
      have e : y / x = -(|y| / |x|) := by rw [abs_of_nonneg h, abs_of_neg hx, div_neg, neg_neg]
      rw [e, Real.arctan_neg, abs_of_pos (by linarith)]; ring
    · next h =>
      have e : y / x = |y| / |x| := by rw [abs_of_neg (not_le.1 h), abs_of_neg hx, neg_div_neg_eq]
      rw [e, abs_of_neg (by linarith)]; ring
  · subst hx
    rw [if_neg (lt_irrefl _), abs_zero, quart_zero (abs_nonneg y)]
    unfold ang
    rw [if_neg (lt_irrefl _), if_neg (lt_irrefl _)]
    rcases lt_trichotomy y 0 with hy | hy | hy
    · rw [if_neg hy.le.not_gt, if_pos hy, if_pos (abs_pos.2 hy.ne), abs_neg, abs_of_pos (by linarith)]
    · subst hy; simp
    · rw [if_pos hy, if_pos (abs_pos.2 hy.ne'), abs_of_pos (by linarith)]
  · rw [if_neg hx.le.not_gt, quart_eq (abs_nonneg y) (abs_pos.2 hx.ne')]
    unfold ang
    rw [if_pos hx]
    rcases le_or_gt 0 y with hy | hy
    · rw [abs_of_nonneg hy, abs_of_pos hx, abs_of_nonneg (Real.arctan_nonneg.2 (div_nonneg hy hx.le))]
    · have e : y / x = -(|y| / |x|) := by rw [abs_of_neg hy, abs_of_pos hx, neg_div, neg_neg]
      rw [e, Real.arctan_neg, abs_neg, abs_of_nonneg (Real.arctan_nonneg.2 (by positivity))]

/-- The angle has the sign of its vertical gradient. -/
theorem ang_eq (y x : ℝ) : ang y x = if y < 0 then -|ang y x| else |ang y x| := by
  have hp := Real.pi_pos
  have h1 := Real.neg_pi_div_two_lt_arctan (y / x)
  have h2 := Real.arctan_lt_pi_div_two (y / x)
  split
  · next hy =>
    suffices ang y x ≤ 0 by rw [abs_of_nonpos this, neg_neg]
    unfold ang
    split
    · next hx =>
      have := Real.arctan_nonneg.2 (div_nonneg (neg_nonneg.2 hy.le) hx.le)
      rw [neg_div, Real.arctan_neg] at this; linarith
    · split_ifs <;> linarith
  · next hy =>
    have hy := not_lt.1 hy
    suffices 0 ≤ ang y x by rw [abs_of_nonneg this]
    unfold ang
    split
    · next hx => exact Real.arctan_nonneg.2 (div_nonneg hy hx.le)
    · split_ifs <;> linarith

/-- The size of the angle in bins. -/
theorem abs_bins (y x : ℝ) : |bins y x| = 11 / Real.pi * |ang y x| := by
  have hp := Real.pi_pos
  unfold bins
  rw [abs_mul, abs_div, abs_of_pos hp, abs_of_pos (by norm_num : (0 : ℝ) < 11)]; ring

theorem bins_eq (y x : ℝ) : bins y x = if y < 0 then -|bins y x| else |bins y x| := by
  have hp := Real.pi_pos
  rw [abs_bins]
  unfold bins
  rw [ang_eq y x]
  split
  · rw [abs_neg, abs_abs]; ring
  · rw [abs_abs]; ring

/-- The kernel's unsigned angle is within `2.5e-6` bins of the exact one. -/
theorem rot_close (y x : ℝ) : |(rot y x - |bins y x|)| ≤ 25 / 10 ^ 7 := by
  have hp := Real.pi_pos
  have key : |(quad |y| |x| - 11 / Real.pi * quart |y| |x|)| ≤ 25 / 10 ^ 7 := by
    have h := poly_close (slope_nonneg (abs_nonneg y) (abs_nonneg x)) (slope_le_one (abs_nonneg y) (abs_nonneg x))
    unfold quad quart
    split
    · have e : 11 / Real.pi * (Real.pi / 2 - Real.arctan (slope |y| |x|))
          = 11 / 2 - 11 / Real.pi * Real.arctan (slope |y| |x|) := by field_simp
      rw [e, ← abs_neg]
      convert h using 2; ring
    · exact h
  rw [abs_bins, abs_ang]
  unfold rot
  split
  · have e : 11 / Real.pi * (Real.pi - quart |y| |x|) = 11 - 11 / Real.pi * quart |y| |x| := by field_simp
    rw [e, ← abs_neg]
    convert key using 2; ring
  · exact key

/-- On the horizontal axis it is the exact one. -/
theorem rot_axis (x : ℝ) : rot 0 x = |bins 0 x| := by
  have hp := Real.pi_pos
  have hs : slope 0 |x| = 0 := by unfold slope; rw [min_eq_left (abs_nonneg x), zero_div]
  rw [abs_bins, abs_ang]
  unfold rot quad quart
  rw [abs_zero, if_neg (abs_nonneg x).not_gt, if_neg (abs_nonneg x).not_gt, hs, poly_zero, Real.arctan_zero]
  split
  · field_simp; ring
  · ring

/-- Off the horizontal axis both are strictly between 0 and 11. -/
theorem rot_mem {y : ℝ} (x : ℝ) (hy : y ≠ 0) : 0 < rot y x ∧ rot y x < 11 := by
  have hp := Real.pi_pos
  have hy' := abs_pos.2 hy
  have h0 := slope_nonneg (abs_nonneg y) (abs_nonneg x)
  have h1 := slope_le_one (abs_nonneg y) (abs_nonneg x)
  have hc := abs_le.1 (poly_close h0 h1)
  have ha1 : Real.arctan (slope |y| |x|) ≤ Real.pi / 4 := by
    rw [← Real.arctan_one]; exact Real.arctan_strictMono.monotone h1
  have hq : 11 / Real.pi * Real.arctan (slope |y| |x|) ≤ 11 / 4 := by
    rw [div_mul_eq_mul_div, div_le_iff₀ hp]; linarith
  have hr : 0 < quad |y| |x| ∧ quad |y| |x| < 11 := by
    have hn : 0 ≤ poly (slope |y| |x|) := by
      rcases h0.eq_or_lt with h | h
      · rw [← h, poly_zero]
      · exact (poly_pos h h1).le
    unfold quad
    split
    · constructor <;> linarith
    · next h =>
      have hx : 0 < |x| := hy'.trans_le (not_lt.1 h)
      refine ⟨poly_pos ?_ h1, by linarith⟩
      rw [slope_of_le hx (not_lt.1 h)]; exact div_pos hy' hx
  unfold rot
  split <;> constructor <;> linarith [hr.1, hr.2]

theorem bins_mem {y : ℝ} (x : ℝ) (hy : y ≠ 0) : 0 < |bins y x| ∧ |bins y x| < 11 := by
  have hp := Real.pi_pos
  have hy' := abs_pos.2 hy
  have hr : 0 < quart |y| |x| ∧ quart |y| |x| < Real.pi := by
    rcases (abs_nonneg x).eq_or_lt with h | h
    · rw [← h, quart_zero (abs_nonneg y), if_pos hy']; constructor <;> linarith
    · rw [quart_eq (abs_nonneg y) h]
      exact ⟨Real.arctan_pos.2 (div_pos hy' h), (Real.arctan_lt_pi_div_two _).trans (by linarith)⟩
  have ha : 0 < |ang y x| ∧ |ang y x| < Real.pi := by
    rw [abs_ang]; split <;> constructor <;> linarith [hr.1, hr.2]
  rw [abs_bins, div_mul_eq_mul_div, div_lt_iff₀ hp]
  exact ⟨by have := ha.1; positivity, by linarith [ha.2]⟩

theorem abs_bins_le (y x : ℝ) : |bins y x| ≤ 11 := by
  rcases eq_or_ne y 0 with h | h
  · subst h
    rw [← rot_axis]
    unfold rot quad
    have hs : slope 0 |x| = 0 := by unfold slope; rw [min_eq_left (abs_nonneg x), zero_div]
    rw [abs_zero, if_neg (abs_nonneg x).not_gt, hs, poly_zero]
    split <;> norm_num
  · exact (bins_mem x h).2.le

/-- The distance the angle must keep from the inner bin boundaries, as the mask measures it: with eleven over `π` the
nearest float of the format, `14685973 / 2²²`. -/
def Clear (y x : ℝ) : Prop :=
  ⌊|ang y x| * (14685973 / 4194304) + 1 / 2⌋ < 1 ∨ 10 < ⌊|ang y x| * (14685973 / 4194304) + 1 / 2⌋
  ∨ 1 / 262144 ≤ |(|ang y x| * (14685973 / 4194304) - ⌊|ang y x| * (14685973 / 4194304) + 1 / 2⌋)|

theorem measured (y x : ℝ) : |(|ang y x| * (14685973 / 4194304) - |bins y x|)| ≤ 9 / 10 ^ 7 := by
  have h := abs_le.1 eleven_div_pi
  have hp := abs_le.1 pi_near
  have hpp := Real.pi_pos
  have ha : |ang y x| ≤ 315 / 100 := by
    have := abs_bins_le y x
    rw [abs_bins, div_mul_eq_mul_div, div_le_iff₀ hpp] at this
    linarith
  rw [abs_bins]
  have e : |ang y x| * (14685973 / 4194304) - 11 / Real.pi * |ang y x|
      = |ang y x| * (14685973 / 4194304 - 11 / Real.pi) := by ring
  have hb : |(14685973 / 4194304 - 11 / Real.pi : ℝ)| ≤ 28 / 10 ^ 8 := by rw [abs_le]; constructor <;> linarith
  rw [e, abs_mul, abs_abs]
  calc |ang y x| * |(14685973 / 4194304 - 11 / Real.pi : ℝ)| ≤ 315 / 100 * (28 / 10 ^ 8) :=
        mul_le_mul ha hb (abs_nonneg _) (by norm_num)
    _ ≤ _ := by norm_num

/-- Two numbers strictly inside one unit interval have the same floor and ceiling. -/
theorem same_cell {a b : ℝ} (N : ℤ) (a0 : (N : ℝ) < a) (a1 : a < N + 1) (b0 : (N : ℝ) < b) (b1 : b < N + 1) :
    ⌊a⌋ = ⌊b⌋ ∧ ⌈a⌉ = ⌈b⌉ := by
  refine ⟨(Int.floor_eq_iff.2 ⟨a0.le, a1⟩).trans (Int.floor_eq_iff.2 ⟨b0.le, b1⟩).symm,
    (Int.ceil_eq_iff (z := N + 1).2 ⟨?_, ?_⟩).trans (Int.ceil_eq_iff (z := N + 1).2 ⟨?_, ?_⟩).symm⟩ <;> push_cast <;> linarith

/-- On a clear pixel the kernel's unsigned angle has the exact one's floor and ceiling. -/
theorem rot_cell {y x : ℝ} (h : Clear y x) : ⌊rot y x⌋ = ⌊|bins y x|⌋ ∧ ⌈rot y x⌉ = ⌈|bins y x|⌉ := by
  rcases eq_or_ne y 0 with hy | hy
  · subst hy; rw [rot_axis]; exact ⟨rfl, rfl⟩
  obtain ⟨r0, r1⟩ := rot_mem x hy
  obtain ⟨b0, b1⟩ := bins_mem x hy
  have hm := abs_le.1 (measured y x)
  have hr := abs_le.1 (rot_close y x)
  unfold Clear at h
  have f0 := Int.floor_le (|ang y x| * (14685973 / 4194304) + 1 / 2)
  have f1 := Int.lt_floor_add_one (|ang y x| * (14685973 / 4194304) + 1 / 2)
  generalize |ang y x| * (14685973 / 4194304) = m at *
  generalize ⌊m + 1 / 2⌋ = n at *
  generalize rot y x = r at *
  generalize |bins y x| = b at *
  rcases h with h | h | h
  · have : (n : ℝ) ≤ 0 := by exact_mod_cast (by omega : n ≤ 0)
    refine same_cell 0 ?_ ?_ ?_ ?_ <;> push_cast <;> linarith
  · have : (11 : ℝ) ≤ n := by exact_mod_cast (by omega : 11 ≤ n)
    refine same_cell 10 ?_ ?_ ?_ ?_ <;> push_cast <;> linarith
  · rcases le_abs.1 h with h | h
    · refine same_cell n ?_ ?_ ?_ ?_ <;> linarith
    · refine same_cell (n - 1) ?_ ?_ ?_ ?_ <;> push_cast <;> linarith

/-- On a clear pixel the kernel's angle has the exact one's floor and ceiling. -/
theorem turn_cell {y x : ℝ} (h : Clear y x) : ⌊turn y x⌋ = ⌊bins y x⌋ ∧ ⌈turn y x⌉ = ⌈bins y x⌉ := by
  obtain ⟨hf, hc⟩ := rot_cell h
  rw [bins_eq y x]
  unfold turn
  split
  · rw [Int.floor_neg, Int.floor_neg, Int.ceil_neg, Int.ceil_neg, hf, hc]; exact ⟨rfl, rfl⟩
  · exact ⟨hf, hc⟩

/-- The angle is within eleven bins of zero. -/
theorem floor_mem (y x : ℝ) : -11 ≤ ⌊bins y x⌋ ∧ ⌊bins y x⌋ ≤ 11 := by
  have h := abs_le.1 (abs_bins_le y x)
  refine ⟨Int.le_floor.2 (by push_cast; exact h.1), ?_⟩
  have := (Int.floor_le (bins y x)).trans h.2
  exact_mod_cast this

theorem ceil_mem (y x : ℝ) : -11 ≤ ⌈bins y x⌉ ∧ ⌈bins y x⌉ ≤ 11 := by
  have h := abs_le.1 (abs_bins_le y x)
  refine ⟨?_, Int.ceil_le.2 (by push_cast; exact h.2)⟩
  have := h.1.trans (Int.le_ceil (bins y x))
  exact_mod_cast this

/-- The magnitude of a gradient. -/
def norm2 (y x : ℝ) : ℝ := Real.sqrt (y * y + x * x)

/-- A pixel's contribution to bin `k`: its magnitude where the floor of its angle is `k`, and one minus the magnitude
where the ceiling is. -/
def pix (k : ℤ) (y x : ℝ) : ℝ :=
  (if ⌊bins y x⌋ % 11 = k then norm2 y x else 0) + (if ⌈bins y x⌉ % 11 = k then 1 - norm2 y x else 0)

end Cert.Hog

end
-- ==== Proof.Pixel.lean ====
module

public import proofs.«01_k».proof.Proof.Bins
public import Idealize.ShloMosaic.PureOps
public import Idealize.ShloMosaic.Lib.Pointwise

@[expose] public section

noncomputable section

/-! # One pixel, as the two programs compute it

`kPix n gx gy` is what the kernel puts into the bin with the number `n` for a pixel with the gradients `gx`, `gy`, and
`rPix k gx gy` what the reference puts into bin `k`, both on extended reals with the operations the programs print. On
finite gradients both are the real number `pix k gx gy` — the kernel's where the pixel is clear. -/

namespace Cert.Hog

open Idealize.ShloMosaic

/-! ## Literals and selections -/

theorem lit_zero : Ideal.ofBits .f32 0x00000000#32 = ((0 : ℝ) : EReal) := by
  simp [Ideal.ofBits, Ideal.ieee, -EReal.coe_mul]
theorem lit_one : Ideal.ofBits .f32 0x3F800000#32 = ((1 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_quarter : Ideal.ofBits .f32 0x3E800000#32 = ((1 / 4 : ℝ) : EReal) := by
  simp [Ideal.ofBits, Ideal.ieee, -EReal.coe_mul]; norm_num
theorem lit_eleven : Ideal.ofBits .f32 0x41300000#32 = ((11 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num
theorem lit_ten : Ideal.ofBits .f32 0x41200000#32 = ((10 : ℝ) : EReal) := by
  simp [Ideal.ofBits, Ideal.ieee, -EReal.coe_mul]; norm_num
theorem lit_mid : Ideal.ofBits .f32 0x40B00000#32 = ((11 / 2 : ℝ) : EReal) := by
  simp [Ideal.ofBits, Ideal.ieee, -EReal.coe_mul]; norm_num
theorem lit_margin : Ideal.ofBits .f32 0x36800000#32 = ((1 / 262144 : ℝ) : EReal) := by
  simp [Ideal.ofBits, Ideal.ieee, -EReal.coe_mul]; norm_num
theorem lit_scale : Ideal.ofBits .f32 0x40601715#32 = ((14685973 / 4194304 : ℝ) : EReal) := by
  simp [Ideal.ofBits, Ideal.ieee, -EReal.coe_mul]; norm_num
theorem lit_inf : Ideal.ofBits .f32 0x7F800000#32 = ⊤ := by
  simp [Ideal.ofBits, Ideal.ieee, -EReal.coe_mul]
theorem lit_c6 : Ideal.ofBits .f32 0x3CDB61C2#32 = ((7188705 / 268435456 : ℝ) : EReal) := by
  simp [Ideal.ofBits, Ideal.ieee, -EReal.coe_mul]; norm_num
theorem lit_c5 : Ideal.ofBits .f32 0xBE025E45#32 = ((-8543813 / 67108864 : ℝ) : EReal) := by
  simp [Ideal.ofBits, Ideal.ieee, -EReal.coe_mul]; norm_num
theorem lit_c4 : Ideal.ofBits .f32 0x3E9505C7#32 = ((9766343 / 33554432 : ℝ) : EReal) := by
  simp [Ideal.ofBits, Ideal.ieee, -EReal.coe_mul]; norm_num
theorem lit_c3 : Ideal.ofBits .f32 0xBEF1152D#32 = ((-15799597 / 33554432 : ℝ) : EReal) := by
  simp [Ideal.ofBits, Ideal.ieee, -EReal.coe_mul]; norm_num
theorem lit_c2 : Ideal.ofBits .f32 0x3F32200A#32 = ((5836805 / 8388608 : ℝ) : EReal) := by
  simp [Ideal.ofBits, Ideal.ieee, -EReal.coe_mul]; norm_num
theorem lit_c1 : Ideal.ofBits .f32 0xBF955BF0#32 = ((-611775 / 524288 : ℝ) : EReal) := by
  simp [Ideal.ofBits, Ideal.ieee, -EReal.coe_mul]; norm_num
theorem lit_c0 : Ideal.ofBits .f32 0x40601709#32 = ((14685961 / 4194304 : ℝ) : EReal) := by
  simp [Ideal.ofBits, Ideal.ieee, -EReal.coe_mul]; norm_num
theorem lit16_zero : Ideal.ofBits .bf16 0x0000#16 = ((0 : ℝ) : EReal) := by
  simp [Ideal.ofBits, Ideal.ieee, -EReal.coe_mul]

theorem select_ofBool {α : Type} (p : Prop) [Decidable p] (a b : α) :
    Scalar.select (BitVec.ofBool (decide p)) a b = if p then a else b := by
  unfold Scalar.select
  by_cases h : p <;> simp [h]

theorem sel_ogt {α : Type} (x y : EReal) (a b : α) :
    Scalar.select (Ideal.cmp .ogt x y) a b = if y < x then a else b := select_ofBool _ a b
theorem sel_oge {α : Type} (x y : EReal) (a b : α) :
    Scalar.select (Ideal.cmp .oge x y) a b = if y ≤ x then a else b := select_ofBool _ a b
theorem sel_olt {α : Type} (x y : EReal) (a b : α) :
    Scalar.select (Ideal.cmp .olt x y) a b = if x < y then a else b := select_ofBool _ a b
theorem sel_oeq {α : Type} (x y : EReal) (a b : α) :
    Scalar.select (Ideal.cmp .oeq x y) a b = if x = y then a else b := select_ofBool _ a b

theorem abs_coe (r : ℝ) : max (r : EReal) (-(r : EReal)) = ((|r| : ℝ) : EReal) := by
  rw [← EReal.coe_neg, ← EReal.coe_strictMono.monotone.map_max]; rfl
theorem max_coe (a b : ℝ) : max (a : EReal) (b : EReal) = ((max a b : ℝ) : EReal) :=
  (EReal.coe_strictMono.monotone.map_max).symm
theorem min_coe (a b : ℝ) : min (a : EReal) (b : EReal) = ((min a b : ℝ) : EReal) :=
  (EReal.coe_strictMono.monotone.map_min).symm
theorem div_real (a : ℝ) {b : ℝ} (h : b ≠ 0) : Ideal.div (a : EReal) (b : EReal) = ((a / b : ℝ) : EReal) := by
  rw [Ideal.div_coe h, ← EReal.coe_mul]; congr 1; field_simp

theorem ite_coe (p : Prop) [Decidable p] (a b : ℝ) :
    (if p then (a : EReal) else (b : EReal)) = ((if p then a else b : ℝ) : EReal) := by split <;> rfl

/-! ## The kernel's pixel -/

/-- The absolute value, as printed. -/
abbrev kAbs (x : EReal) : EReal := max x (-x)

def kSlope (a b : EReal) : EReal :=
  Ideal.div (min a b)
    (Scalar.select (Ideal.cmp .ogt (max a b) (Ideal.ofBits .f32 0x00000000#32)) (max a b) (Ideal.ofBits .f32 0x3F800000#32))

def kPoly (t : EReal) : EReal :=
  (((((((Ideal.ofBits .f32 0x3CDB61C2#32 * (t * t) + Ideal.ofBits .f32 0xBE025E45#32) * (t * t)
    + Ideal.ofBits .f32 0x3E9505C7#32) * (t * t) + Ideal.ofBits .f32 0xBEF1152D#32) * (t * t)
    + Ideal.ofBits .f32 0x3F32200A#32) * (t * t) + Ideal.ofBits .f32 0xBF955BF0#32) * (t * t)
    + Ideal.ofBits .f32 0x40601709#32) * t)

def kQuad (a b : EReal) : EReal :=
  Scalar.select (Ideal.cmp .ogt a b) (Ideal.ofBits .f32 0x40B00000#32 - kPoly (kSlope a b)) (kPoly (kSlope a b))

def kRot (gx gy : EReal) : EReal :=
  Scalar.select (Ideal.cmp .olt gy (Ideal.ofBits .f32 0x00000000#32))
    (Ideal.ofBits .f32 0x41300000#32 - kQuad (kAbs gx) (kAbs gy)) (kQuad (kAbs gx) (kAbs gy))

def kTurn (gx gy : EReal) : EReal :=
  Scalar.select (Ideal.cmp .olt gx (Ideal.ofBits .f32 0x00000000#32))
    (Ideal.ofBits .f32 0x00000000#32 - kRot gx gy) (kRot gx gy)

/-- The bin number brought into `0 … 10`. -/
def kWrap (f : EReal) : EReal :=
  let g := Scalar.select (Ideal.cmp .olt f (Ideal.ofBits .f32 0x00000000#32)) (f + Ideal.ofBits .f32 0x41300000#32) f
  Scalar.select (Ideal.cmp .oge g (Ideal.ofBits .f32 0x41300000#32)) (g - Ideal.ofBits .f32 0x41300000#32) g

def kMag (a b : EReal) : EReal :=
  Scalar.select (Ideal.cmp .ogt (a * a + b * b) (Ideal.ofBits .f32 0x00000000#32))
    ((a * a + b * b) * Ideal.rsqrt (a * a + b * b)) (Ideal.ofBits .f32 0x00000000#32)

def kPix (n gx gy : EReal) : EReal :=
  Scalar.select (Ideal.cmp .oeq (kWrap (Ideal.liftRound Int.floor (kTurn gx gy))) n)
      (kMag (kAbs gx) (kAbs gy)) (Ideal.ofBits .bf16 0x0000#16)
    + Scalar.select (Ideal.cmp .oeq (kWrap (Ideal.liftRound Int.ceil (kTurn gx gy))) n)
      (Ideal.ofBits .f32 0x3F800000#32 - kMag (kAbs gx) (kAbs gy)) (Ideal.ofBits .bf16 0x0000#16)

theorem kSlope_coe {a b : ℝ} (ha : 0 ≤ a) (hb : 0 ≤ b) : kSlope a b = ((slope a b : ℝ) : EReal) := by
  unfold kSlope slope
  rw [sel_ogt, lit_zero, lit_one, max_coe, min_coe]
  simp only [EReal.coe_lt_coe_iff]
  rw [ite_coe, div_real]
  split
  · next h => exact h.ne'
  · exact one_ne_zero

theorem kPoly_coe (t : ℝ) : kPoly t = ((poly t : ℝ) : EReal) := by
  unfold kPoly poly coeff
  rw [lit_c0, lit_c1, lit_c2, lit_c3, lit_c4, lit_c5, lit_c6]
  simp only [EReal.coe_mul, EReal.coe_add]

theorem kQuad_coe {a b : ℝ} (ha : 0 ≤ a) (hb : 0 ≤ b) : kQuad a b = ((quad a b : ℝ) : EReal) := by
  unfold kQuad quad
  rw [sel_ogt, kSlope_coe ha hb, kPoly_coe, lit_mid, ← EReal.coe_sub, ite_coe]
  simp only [EReal.coe_lt_coe_iff]

theorem kTurn_coe (y x : ℝ) : kTurn y x = ((turn y x : ℝ) : EReal) := by
  unfold kTurn turn kRot rot kAbs
  rw [sel_olt, sel_olt, abs_coe, abs_coe, kQuad_coe (abs_nonneg y) (abs_nonneg x), lit_zero, lit_eleven, ← EReal.coe_sub,
    ite_coe, ← EReal.coe_sub, ite_coe]
  simp only [EReal.coe_lt_coe_iff, zero_sub]

/-- On whole numbers from `-11` to `11` the wrap is the remainder by eleven. -/
theorem kWrap_coe {z : ℤ} (h0 : -11 ≤ z) (h1 : z ≤ 11) : kWrap ((z : ℝ) : EReal) = (((z % 11 : ℤ) : ℝ) : EReal) := by
  unfold kWrap
  simp only [sel_olt, sel_oge, lit_zero, lit_eleven, ← EReal.coe_add, ite_coe, ← EReal.coe_sub, EReal.coe_lt_coe_iff,
    EReal.coe_le_coe_iff]
  congr 1
  have hz : ((z : ℝ) < 0) ↔ z < 0 := by exact_mod_cast Iff.rfl
  simp only [hz]
  split
  · next h =>
    have e : (z : ℝ) + 11 = ((z + 11 : ℤ) : ℝ) := by push_cast; ring
    rw [e]
    rw [if_neg (by have : z + 11 < 11 := by omega
                   exact not_le.2 (by exact_mod_cast this))]
    congr 1; omega
  · next h =>
    split
    · next h' =>
      have h' : 11 ≤ z := by exact_mod_cast h'
      have e : (z : ℝ) - 11 = ((z - 11 : ℤ) : ℝ) := by push_cast; ring
      rw [e]; congr 1; omega
    · next h' =>
      have h' : ¬ 11 ≤ z := fun g => h' (by exact_mod_cast g)
      congr 1; omega

theorem kMag_coe (y x : ℝ) : kMag ((|y| : ℝ) : EReal) ((|x| : ℝ) : EReal) = ((norm2 y x : ℝ) : EReal) := by
  unfold kMag norm2
  rw [sel_ogt, lit_zero, ← EReal.coe_mul, ← EReal.coe_mul, ← EReal.coe_add, abs_mul_abs_self, abs_mul_abs_self]
  simp only [EReal.coe_lt_coe_iff]
  split
  · next h =>
    rw [Ideal.rsqrt_coe, if_neg h.le.not_gt, if_neg h.ne', ← EReal.coe_mul]
    congr 1
    have hs := (Real.sqrt_pos.2 h).ne'
    have e := Real.mul_self_sqrt h.le
    generalize √(y * y + x * x) = q at hs e ⊢
    rw [← e, mul_assoc, mul_inv_cancel₀ hs, mul_one]
  · next h =>
    rw [Real.sqrt_eq_zero_of_nonpos (not_lt.1 h)]

/-- THE KERNEL'S PIXEL on finite gradients, where it is clear. -/
theorem kPix_coe {y x : ℝ} (h : Clear y x) (k : ℤ) : kPix ((k : ℝ) : EReal) y x = ((pix k y x : ℝ) : EReal) := by
  obtain ⟨hf, hc⟩ := turn_cell h
  unfold kPix pix kAbs
  rw [kTurn_coe, abs_coe, abs_coe, kMag_coe, Ideal.liftRound_coe, Ideal.liftRound_coe, hf, hc,
    kWrap_coe (floor_mem y x).1 (floor_mem y x).2, kWrap_coe (ceil_mem y x).1 (ceil_mem y x).2, sel_oeq, sel_oeq,
    lit_one, lit16_zero, ← EReal.coe_sub, ite_coe, ite_coe, ← EReal.coe_add]
  simp only [EReal.coe_eq_coe_iff, Int.cast_inj]

/-! ## The reference's pixel -/

theorem atan2_coe (y x : ℝ) : Ideal.atan2 y x = ((ang y x : ℝ) : EReal) := rfl

/-- The reference's `π`. -/
theorem ref_pi : Ideal.atan2 (Ideal.ofBits .f32 0x00000000#32) (Ideal.ofBits .f32 0xBF800000#32) = ((Real.pi : ℝ) : EReal) := by
  rw [lit_zero, lit_neg_one, atan2_coe]
  congr 1
  norm_num [ang]

def rBins (gx gy : EReal) : EReal :=
  Ideal.div (Ideal.atan2 gx gy) (Ideal.atan2 (Ideal.ofBits .f32 0x00000000#32) (Ideal.ofBits .f32 0xBF800000#32))
    * Ideal.ofBits .f32 0x41300000#32

theorem rBins_coe (y x : ℝ) : rBins y x = ((bins y x : ℝ) : EReal) := by
  unfold rBins bins
  rw [ref_pi, atan2_coe, div_real _ Real.pi_ne_zero, lit_eleven, ← EReal.coe_mul]

/-- A whole number of the range converts to its word. -/
theorem fptosi_coe {z : ℤ} (h0 : -11 ≤ z) (h1 : z ≤ 11) : Ideal.fptosi 32 ((z : ℝ) : EReal) = BitVec.ofInt 32 z := by
  unfold Ideal.fptosi
  rw [Ideal.toIntClamped_coe]
  have : (if (0 : ℝ) ≤ (z : ℝ) then ⌊(z : ℝ)⌋ else ⌈(z : ℝ)⌉) = z := by split <;> simp
  rw [this]
  congr 1
  omega

end Cert.Hog

end
-- ==== Proof.Cells.lean ====
module

public import proofs.«01_k».proof.Proof.Pixel
public import Idealize.ShloMosaic.Lib.Pointwise

@[expose] public section

noncomputable section

/-! # The cells of the result

The gradients of a stack of images at a pixel of the inner `510 × 510` square, what it means that a cell is clear, and
the value of the histogram at a bin of a cell: the mean of the sixteen pixels. -/

namespace Cert.Hog

open Idealize.ShloMosaic

/-- The stack of images. -/
abbrev Images : Type := (⟨4, ![16, 1, 512, 512]⟩ : Shape).Idx → EReal

/-- The difference of the pixel's left and right neighbours. -/
def gradX (X : Images) (n : Fin 16) (p q : Fin 510) : EReal :=
  X (ix4 n 0 ⟨p.val + 1, by omega⟩ ⟨q.val, by omega⟩) - X (ix4 n 0 ⟨p.val + 1, by omega⟩ ⟨q.val + 2, by omega⟩)

/-- The difference of the pixel's upper and lower neighbours. -/
def gradY (X : Images) (n : Fin 16) (p q : Fin 510) : EReal :=
  X (ix4 n 0 ⟨p.val, by omega⟩ ⟨q.val + 1, by omega⟩) - X (ix4 n 0 ⟨p.val + 2, by omega⟩ ⟨q.val + 1, by omega⟩)

/-- The `a`-th of the four rows or columns of a cell. -/
def tap (r : Fin 127) (a : Fin 4) : Fin 510 := ⟨4 * r.val + a.val, by omega⟩

/-- A pixel with finite gradients `y`, `x` that is clear. -/
def ClearAt (gx gy : EReal) : Prop := ∃ y x : ℝ, gx = y ∧ gy = x ∧ Clear y x

/-- All sixteen pixels of the cell are clear. -/
def ClearCell (X : Images) (n : Fin 16) (r c : Fin 127) : Prop :=
  ∀ a b : Fin 4, ClearAt (gradX X n (tap r a) (tap c b)) (gradY X n (tap r a) (tap c b))

/-- The histogram: bin `k` of cell `(r, c)` of image `n`. -/
def hog (X : Images) (n : Fin 16) (k : ℤ) (r c : Fin 127) : EReal :=
  (((∑ a : Fin 4, ∑ b : Fin 4,
    pix k (gradX X n (tap r a) (tap c b)).toReal (gradY X n (tap r a) (tap c b)).toReal) / 16 : ℝ) : EReal)

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A function that gives each pixel of a clear cell its real value sums to sixteen times the histogram. -/
theorem sum_cell {X : Images} {n : Fin 16} {r c : Fin 127} (h : ClearCell X n r c) (k : ℤ) (f : EReal → EReal → EReal)
    (hf : ∀ y x : ℝ, Clear y x → f y x = ((pix k y x : ℝ) : EReal)) :
    (∑ a : Fin 4, ∑ b : Fin 4, f (gradX X n (tap r a) (tap c b)) (gradY X n (tap r a) (tap c b)))
      = ((∑ a : Fin 4, ∑ b : Fin 4,
          pix k (gradX X n (tap r a) (tap c b)).toReal (gradY X n (tap r a) (tap c b)).toReal : ℝ) : EReal) := by
  rw [← coe_sum]
  refine Finset.sum_congr rfl fun a _ => ?_
  rw [← coe_sum]
  refine Finset.sum_congr rfl fun b _ => ?_
  obtain ⟨y, x, e1, e2, hc⟩ := h a b
  rw [e1, e2, hf y x hc, EReal.toReal_coe, EReal.toReal_coe]

end Cert.Hog

end
-- ==== Proof.Reference.lean ====
module

public import proofs.«01_k».proof.Proof.Cells
public import proofs.«01_k».proof.Proof.Gen.ReferenceIdeal.Run

@[expose] public section

set_option maxRecDepth 16384

noncomputable section

/-! # The reference's result is the histogram -/

namespace Cert.Hog.Ref

open Idealize.ShloMosaic Cert.ReferenceIdeal Cert.ReferenceIdeal.Gen

/-- The horizontal differences of all images. -/
def dX (X : FVec Ideal S16x1x512x512 .f32) : FVec Ideal S16x510x510 .f32 :=
  subf (extractStridedSlice S16x510x510 ![0, 1, 0] (shapeCast S16x512x512 X shapeCasts_S16x1x512x512_S16x512x512)
      slices_S16x512x512_S16x510x510_0_1_0)
    (extractStridedSlice S16x510x510 ![0, 1, 2] (shapeCast S16x512x512 X shapeCasts_S16x1x512x512_S16x512x512)
      slices_S16x512x512_S16x510x510_0_1_2)

/-- The vertical differences of all images. -/
def dY (X : FVec Ideal S16x1x512x512 .f32) : FVec Ideal S16x510x510 .f32 :=
  subf (extractStridedSlice S16x510x510 ![0, 0, 1] (shapeCast S16x512x512 X shapeCasts_S16x1x512x512_S16x512x512)
      slices_S16x512x512_S16x510x510_0_0_1)
    (extractStridedSlice S16x510x510 ![0, 2, 1] (shapeCast S16x512x512 X shapeCasts_S16x1x512x512_S16x512x512)
      slices_S16x512x512_S16x510x510_0_2_1)

/-- The angles in bins. -/
def angles (X : FVec Ideal S16x1x512x512 .f32) : FVec Ideal S16x510x510 .f32 :=
  mulf (Host.divf (Host.atan2 (dX X) (dY X))
      (broadcastInDim S16x510x510 ![] bcast_S_S16x510x510
        (Host.atan2 (constant S_ .f32 0x00000000#32) (constant S_ .f32 0xBF800000#32))))
    (broadcastInDim S16x510x510 ![] bcast_S_S16x510x510 (constant S_ .f32 0x41300000#32))

/-- The lengths of the gradients. -/
def lengths (X : FVec Ideal S16x1x512x512 .f32) : FVec Ideal S16x510x510 .f32 :=
  Host.sqrt (addf (mulf (dX X) (dX X)) (mulf (dY X) (dY X)))

/-- The divisor of the remainder, as the library writes it. -/
def eleven : IVec S_ 32 :=
  select (cmpi .eq (id (constantI S_ 32 11#32)) (constantI S_ 32 0#32)) (constantI S_ 32 1#32) (id (constantI S_ 32 11#32))

/-- The remainder by eleven of whole numbers, as the library writes it. -/
def wrapped (f : FVec Ideal S16x510x510 .f32) : IVec S16x510x510 32 :=
  let r : IVec S16x510x510 32 := Host.remsi (fptosi 32 f) (broadcastInDim S16x510x510 ![] bcast_S_S16x510x510 eleven)
  select (andi
      (cmpi .ne (cmpi .slt r (broadcastInDim S16x510x510 ![] bcast_S_S16x510x510 (constantI S_ 32 0#32)))
        (broadcastInDim S16x510x510 ![] bcast_S_S16x510x510 (cmpi .slt eleven (constantI S_ 32 0#32))))
      (cmpi .ne r (broadcastInDim S16x510x510 ![] bcast_S_S16x510x510 (constantI S_ 32 0#32))))
    (addi r (broadcastInDim S16x510x510 ![] bcast_S_S16x510x510 eleven)) r

/-- The values `v` put into the bins `w`. -/
def spread (w : IVec S16x510x510 32) (v : FVec Ideal S16x510x510 .f32) : FVec Ideal S16x11x510x510 .f32 :=
  mulf (uitofp .f32 (cmpi .eq
      (broadcastInDim S16x11x510x510 ![0, 1, 2, 3] bcast_S16x1x510x510_S16x11x510x510_0_1_2_3
        (broadcastInDim S16x1x510x510 ![0, 2, 3] bcast_S16x510x510_S16x1x510x510_0_2_3 w))
      (broadcastInDim S16x11x510x510 ![0, 1, 2, 3] bcast_S1x11x1x1_S16x11x510x510_0_1_2_3 (iotaInDim S1x11x1x1 32 1))))
    (broadcastInDim S16x11x510x510 ![0, 1, 2, 3] bcast_S16x1x510x510_S16x11x510x510_0_1_2_3
      (broadcastInDim S16x1x510x510 ![0, 2, 3] bcast_S16x510x510_S16x1x510x510_0_2_3 v))

/-- The bins of every pixel. -/
def binned (X : FVec Ideal S16x1x512x512 .f32) : FVec Ideal S16x11x510x510 .f32 :=
  addf (spread (wrapped (Host.floor (angles X))) (lengths X))
    (spread (wrapped (Host.ceil (angles X)))
      (subf (broadcastInDim S16x510x510 ![] bcast_S_S16x510x510 (constant S_ .f32 0x3F800000#32)) (lengths X)))

/-- The pooled result. -/
def pooled (B : FVec Ideal S16x11x510x510 .f32) : FVec Ideal S16x11x127x127 .f32 :=
  Host.divf (Host.reduceAdd (shapeCast S16x11x127x4x127x4
        (extractStridedSlice S16x11x508x508 ![0, 0, 0, 0] B slices_S16x11x510x510_S16x11x508x508_0_0_0_0)
        shapeCasts_S16x11x508x508_S16x11x127x4x127x4)
      (constant S_ .f32 0x00000000#32) reducesTo_S16x11x127x4x127x4_S16x11x127x127_d3_5 h_S_)
    (broadcastInDim S16x11x127x127 ![] bcast_S_S16x11x127x127 (constant S_ .f32 0x41800000#32))

theorem res_eq (m : (ℓ : Loc nD τ sig) → Buf (Elt Ideal) ℓ) (c : Dev nD) :
    Value.res_out0 m c = pooled (binned (m ((c.tc : Thread nD τ).loc main_arg0))) := rfl

/-! ## Read at an index -/

theorem dX_apply (X : FVec Ideal S16x1x512x512 .f32) (n : Fin 16) (p q : Fin 510) : dX X (ix3 n p q) = gradX X n p q := by
  pointwise [dX, gradX]
  simp only [Nat.add_comm, Nat.zero_add]

theorem dY_apply (X : FVec Ideal S16x1x512x512 .f32) (n : Fin 16) (p q : Fin 510) : dY X (ix3 n p q) = gradY X n p q := by
  pointwise [dY, gradY]
  simp only [Nat.add_comm, Nat.zero_add]

theorem angles_apply (X : FVec Ideal S16x1x512x512 .f32) (n : Fin 16) (p q : Fin 510) :
    angles X (ix3 n p q) = rBins (gradX X n p q) (gradY X n p q) := by
  pointwise [angles, rBins]
  rw [dX_apply, dY_apply]

theorem lengths_apply (X : FVec Ideal S16x1x512x512 .f32) (n : Fin 16) (p q : Fin 510) :
    lengths X (ix3 n p q)
      = Ideal.sqrt (gradX X n p q * gradX X n p q + gradY X n p q * gradY X n p q) := by
  pointwise [lengths]
  rw [dX_apply, dY_apply]

/-- The remainder by eleven on one word. -/
def wrapWord (w : BitVec 32) : BitVec 32 :=
  let e : BitVec 32 := Scalar.select (IntOp.cmpi .eq 11#32 0#32) 1#32 11#32
  let r : BitVec 32 := IntOp.remsi .host w e
  Scalar.select (IntOp.andi (IntOp.cmpi .ne (IntOp.cmpi .slt r 0#32) (IntOp.cmpi .slt e 0#32)) (IntOp.cmpi .ne r 0#32))
    (IntOp.addi r e) r

theorem wrapped_apply (f : FVec Ideal S16x510x510 .f32) (n : Fin 16) (p q : Fin 510) :
    wrapped f (ix3 n p q) = wrapWord (Ideal.fptosi 32 (f (ix3 n p q))) := by
  pointwise [wrapped, eleven]
  rfl

theorem wrapWord_eq {z : ℤ} (h0 : -11 ≤ z) (h1 : z ≤ 11) : wrapWord (BitVec.ofInt 32 z) = BitVec.ofInt 32 (z % 11) := by
  interval_cases z <;> rfl

theorem word_eq_iff {z : ℤ} (h0 : -11 ≤ z) (h1 : z ≤ 11) (k : Fin 11) :
    BitVec.ofInt 32 (z % 11) = BitVec.ofNat 32 k ↔ z % 11 = (k.val : ℤ) := by
  obtain ⟨t, ht⟩ : ∃ t : ℕ, z % 11 = t := ⟨(z % 11).toNat, by omega⟩
  have hk := k.isLt
  rw [ht, BitVec.ofInt_natCast]
  constructor
  · intro e
    have e := congrArg BitVec.toNat e
    rw [BitVec.toNat_ofNat, BitVec.toNat_ofNat, Nat.mod_eq_of_lt (by omega), Nat.mod_eq_of_lt (by omega)] at e
    rw [e]
  · intro e
    rw [show t = k.val by omega]

/-- A bit converted to a number picks the value or zero. -/
theorem bit_mul (p : Prop) [Decidable p] (v : EReal) :
    (FloatOps.uitofp .f32 (BitVec.ofBool (decide p)) : Ideal .f32) * v = if p then v else 0 := by
  show ((((BitVec.ofBool (decide p)).toNat : ℝ)) : EReal) * v = _
  by_cases h : p <;> simp [h]

theorem spread_apply (w : IVec S16x510x510 32) (v : FVec Ideal S16x510x510 .f32) (n : Fin 16) (k : Fin 11) (p q : Fin 510) :
    spread w v (ix4 n k p q) = if w (ix3 n p q) = BitVec.ofNat 32 k then v (ix3 n p q) else 0 := by
  pointwise [spread]
  exact bit_mul (w (ix3 n p q) = BitVec.ofNat 32 k) (v (ix3 n p q))

/-- The reference's pixel on finite gradients. -/
theorem binned_apply (X : FVec Ideal S16x1x512x512 .f32) (n : Fin 16) (k : Fin 11) (p q : Fin 510) {y x : ℝ}
    (hy : gradX X n p q = y) (hx : gradY X n p q = x) :
    binned X (ix4 n k p q) = ((pix k.val y x : ℝ) : EReal) := by
  have hb : angles X (ix3 n p q) = ((bins y x : ℝ) : EReal) := by rw [angles_apply, hy, hx, rBins_coe]
  have hl : lengths X (ix3 n p q) = ((norm2 y x : ℝ) : EReal) := by
    rw [lengths_apply, hy, hx, ← EReal.coe_mul, ← EReal.coe_mul, ← EReal.coe_add, Ideal.sqrt_coe,
      if_neg (not_lt.2 (add_nonneg (mul_self_nonneg y) (mul_self_nonneg x)))]
    rfl
  have hf : wrapped (Host.floor (angles X)) (ix3 n p q) = BitVec.ofInt 32 (⌊bins y x⌋ % 11) := by
    rw [wrapped_apply, ← wrapWord_eq (floor_mem y x).1 (floor_mem y x).2, ← fptosi_coe (floor_mem y x).1 (floor_mem y x).2]
    pointwise
    rw [hb, Ideal.liftRound_coe]
  have hc : wrapped (Host.ceil (angles X)) (ix3 n p q) = BitVec.ofInt 32 (⌈bins y x⌉ % 11) := by
    rw [wrapped_apply, ← wrapWord_eq (ceil_mem y x).1 (ceil_mem y x).2, ← fptosi_coe (ceil_mem y x).1 (ceil_mem y x).2]
    pointwise
    rw [hb, Ideal.liftRound_coe]
  have e : subf (broadcastInDim S16x510x510 ![] bcast_S_S16x510x510 (constant S_ .f32 0x3F800000#32)) (lengths X)
      (ix3 n p q) = (((1 - norm2 y x : ℝ)) : EReal) := by
    pointwise
    rw [hl, EReal.coe_sub]; rfl
  unfold binned pix
  rw [addf_apply, spread_apply, spread_apply, hf, hc, hl, e]
  simp only [word_eq_iff (floor_mem y x).1 (floor_mem y x).2, word_eq_iff (ceil_mem y x).1 (ceil_mem y x).2]
  rw [← EReal.coe_zero, ite_coe, ite_coe, EReal.coe_add]
  rfl

theorem pooled_fiber (h : S16x11x127x4x127x4.ReducesTo [3, 5] S16x11x127x127) (n : Fin 16) (k : Fin 11) (r c : Fin 127)
    (i : S16x11x127x4x127x4.Idx) :
    h.drop i = ix4 n k r c ↔ ∃ t : Fin 4 × Fin 4, ix6 n k r t.1 c t.2 = i := by
  constructor
  · intro e
    refine ⟨(i 3, i 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨t, rfl⟩
    funext b
    apply Fin.ext
    match b with
    | ⟨0, _⟩ => rfl
    | ⟨1, _⟩ => rfl
    | ⟨2, _⟩ => rfl
    | ⟨3, _⟩ => rfl

theorem tap_eq (r : Fin 127) (a : Fin 4) (h : r.val * 4 + a.val < 510) : (⟨r.val * 4 + a.val, h⟩ : Fin 510) = tap r a :=
  Fin.ext (congrArg (· + a.val) (Nat.mul_comm r.val 4))

theorem pooled_apply (B : FVec Ideal S16x11x510x510 .f32) (n : Fin 16) (k : Fin 11) (r c : Fin 127) :
    pooled B (ix4 n k r c) = Ideal.div (∑ a : Fin 4, ∑ b : Fin 4, B (ix4 n k (tap r a) (tap c b))) ((16 : ℝ) : EReal) := by
  unfold pooled
  pointwise
  rw [lit_sixteen]
  congr 1
  unfold Ideal.hostReduceAdd
  rw [zero_add]
  refine (Finset.sum_filter_eq_sum_of_fiber _ (fun t : Fin 4 × Fin 4 => ix6 n k r t.1 c t.2)
    (fun _ _ e => Prod.ext (congrFun e 3) (congrFun e 5)) (pooled_fiber _ n k r c) _).trans ?_
  rw [Fintype.sum_prod_type]
  refine Finset.sum_congr rfl fun a _ => Finset.sum_congr rfl fun b _ => ?_
  pointwise
  rw [tap_eq, tap_eq]

/-- THE REFERENCE'S RESULT on a clear cell. -/
theorem res_apply (X : FVec Ideal S16x1x512x512 .f32) (n : Fin 16) (k : Fin 11) (r c : Fin 127) (h : ClearCell X n r c) :
    pooled (binned X) (ix4 n k r c) = hog X n k.val r c := by
  rw [pooled_apply]
  have e : (∑ a : Fin 4, ∑ b : Fin 4, binned X (ix4 n k (tap r a) (tap c b)))
      = ((∑ a : Fin 4, ∑ b : Fin 4,
          pix k.val (gradX X n (tap r a) (tap c b)).toReal (gradY X n (tap r a) (tap c b)).toReal : ℝ) : EReal) := by
    rw [← coe_sum]
    refine Finset.sum_congr rfl fun a _ => ?_
    rw [← coe_sum]
    refine Finset.sum_congr rfl fun b _ => ?_
    obtain ⟨y, x, e1, e2, _⟩ := h a b
    rw [binned_apply X n k _ _ e1 e2, e1, e2, EReal.toReal_coe, EReal.toReal_coe]
  rw [e, div_real _ (by norm_num)]
  rfl

end Cert.Hog.Ref

end
-- ==== Proof.Mask.lean ====
module

public import proofs.«01_k».proof.Proof.Cells
public import proofs.«01_k».proof.Proof.Gen.On_clear_cells
public import Idealize.ShloMosaic.Lib.ReduceAll

@[expose] public section

set_option maxRecDepth 16384

noncomputable section

/-! # Where the mask is set, the cell is clear -/

namespace Cert.Hog.Mask

open Idealize.ShloMosaic Cert.On_clear_cells Cert.On_clear_cells.Gen

attribute [local instance] Cert.On_clear_cells.Gen.facts

theorem and_one (x y : BitVec 1) : IntOp.andi x y = 1#1 ↔ x = 1#1 ∧ y = 1#1 := by
  rcases BitVec.eq_zero_or_eq_one x with rfl | rfl <;> rcases BitVec.eq_zero_or_eq_one y with rfl | rfl <;> decide

theorem or_one (x y : BitVec 1) : IntOp.ori x y = 1#1 ↔ x = 1#1 ∨ y = 1#1 := by
  rcases BitVec.eq_zero_or_eq_one x with rfl | rfl <;> rcases BitVec.eq_zero_or_eq_one y with rfl | rfl <;> decide

theorem bit_one (p : Prop) [Decidable p] : BitVec.ofBool (decide p) = 1#1 ↔ p := by
  by_cases h : p <;> simp [h]

/-- A fold by «and» that is set is set at each element. -/
theorem fold_and {ι : Type} (s : Finset ι) (f : ι → BitVec 1) (h : s.fold IntOp.andi 1#1 f = 1#1) : ∀ i ∈ s, f i = 1#1 := by
  classical
  induction s using Finset.induction_on with
  | empty => intro i hi; exact absurd hi (Finset.notMem_empty i)
  | insert a s ha ih =>
    rw [Finset.fold_insert ha, and_one] at h
    intro i hi
    rcases Finset.mem_insert.1 hi with rfl | hi
    · exact h.1
    · exact ih h.2 i hi

/-- A number whose absolute value is below infinity is real. -/
theorem real_of_abs {g : EReal} (h : max g (-g) < ⊤) : ∃ y : ℝ, g = y := by
  induction g with
  | bot => exact absurd h (by simp)
  | coe y => exact ⟨y, rfl⟩
  | top => exact absurd h (by simp)

/-- The angle's distance from the boundaries, as the mask writes it. -/
def apart (gx gy : EReal) : EReal := max (Ideal.atan2 gx gy) (-Ideal.atan2 gx gy) * Ideal.ofBits .f32 0x40601715#32

theorem clear_of_bits {gx gy : EReal} (h1 : max gx (-gx) < Ideal.ofBits .f32 0x7F800000#32)
    (h2 : max gy (-gy) < Ideal.ofBits .f32 0x7F800000#32)
    (h3 : (Ideal.liftRound Int.floor (apart gx gy + Ideal.ofBits .f32 0x3F000000#32) < 1
        ∨ Ideal.ofBits .f32 0x41200000#32 < Ideal.liftRound Int.floor (apart gx gy + Ideal.ofBits .f32 0x3F000000#32))
      ∨ Ideal.ofBits .f32 0x36800000#32
          ≤ max (apart gx gy - Ideal.liftRound Int.floor (apart gx gy + Ideal.ofBits .f32 0x3F000000#32))
            (-(apart gx gy - Ideal.liftRound Int.floor (apart gx gy + Ideal.ofBits .f32 0x3F000000#32)))) :
    ClearAt gx gy := by
  rw [lit_inf] at h1 h2
  obtain ⟨y, rfl⟩ := real_of_abs h1
  obtain ⟨x, rfl⟩ := real_of_abs h2
  refine ⟨y, x, rfl, rfl, ?_⟩
  have e : apart y x = ((|ang y x| * (14685973 / 4194304) : ℝ) : EReal) := by
    unfold apart
    rw [atan2_coe, abs_coe, lit_scale, ← EReal.coe_mul]
  rw [e, lit_half, lit_ten, lit_margin, ← EReal.coe_add, Ideal.liftRound_coe, ← EReal.coe_sub, abs_coe, ← EReal.coe_one,
    EReal.coe_lt_coe_iff, EReal.coe_lt_coe_iff, EReal.coe_le_coe_iff] at h3
  rcases h3 with (h | h) | h
  · exact Or.inl (by exact_mod_cast h)
  · exact Or.inr (Or.inl (by exact_mod_cast h))
  · exact Or.inr (Or.inr h)

theorem drop_cell (h : S16x127x4x127x4.ReducesTo [2, 4] S16x127x127) (n : Fin 16) (r c : Fin 127) (a b : Fin 4) :
    h.drop (ix5 n r a c b) = ix3 n r c := by
  funext d
  apply Fin.ext
  match d with
  | ⟨0, _⟩ => rfl
  | ⟨1, _⟩ => rfl
  | ⟨2, _⟩ => rfl

theorem mask_cell (X : FVec Ideal S16x1x512x512 .f32) (n : Fin 16) (k : Fin 11) (r c : Fin 127)
    (h : Cert.On_clear_cells.fn X (ix4 n k r c) = 1#1) : ClearCell X n r c := by
  intro a b
  unfold Cert.On_clear_cells.fn Cert.On_clear_cells.fn_part1 at h
  dsimp only at h
  pointwise at h
  have h := fold_and _ _ h (ix5 n r a c b) (Finset.mem_filter.2 ⟨Finset.mem_univ _, drop_cell _ n r c a b⟩)
  beta_reduce at h
  obtain ⟨h12, h3⟩ := (and_one _ _).1 h
  obtain ⟨h1, h2⟩ := (and_one _ _).1 h12
  clear h h12
  have h1 := (bit_one _).1 h1
  have h2 := (bit_one _).1 h2
  have h3 := ((or_one _ _).1 h3).imp (fun g => ((or_one _ _).1 g).imp (bit_one _).1 (bit_one _).1) (bit_one _).1
  have ex : X (ix4 n 0 ⟨1 + (r.val * 4 + a.val), by omega⟩ ⟨c.val * 4 + b.val, by omega⟩)
      - X (ix4 n 0 ⟨1 + (r.val * 4 + a.val), by omega⟩ ⟨2 + (c.val * 4 + b.val), by omega⟩)
      = gradX X n (tap r a) (tap c b) := by
    unfold gradX tap
    simp only [Nat.mul_comm, Nat.add_comm]
  have ey : X (ix4 n 0 ⟨r.val * 4 + a.val, by omega⟩ ⟨1 + (c.val * 4 + b.val), by omega⟩)
      - X (ix4 n 0 ⟨2 + (r.val * 4 + a.val), by omega⟩ ⟨1 + (c.val * 4 + b.val), by omega⟩)
      = gradY X n (tap r a) (tap c b) := by
    unfold gradY tap
    simp only [Nat.mul_comm, Nat.add_comm]
  rw [← ex, ← ey]
  exact clear_of_bits h1 h2 h3

end Cert.Hog.Mask

end
-- ==== Proof.Trip.lean ====
module

public import proofs.«01_k».proof.Proof.Pixel
public import Idealize.ShloMosaic.Lib.Pipeline.ValueKit
public import proofs.«01_k».proof.Proof.Gen.KernelIdeal.Value

@[expose] public section

set_option maxRecDepth 16384

noncomputable section

/-! # What the kernel's loop leaves in the bins buffer

Row `512 * b + p` of the buffer holds, for the pixels of row `p`, what they put into bin `b`. One trip writes sixteen
rows of each of the eleven bins; the trips together write every row. -/

namespace Cert.Hog.Ker

open Idealize.ShloMosaic Cert.KernelIdeal Cert.KernelIdeal.Gen Idealize.SL.Sem

attribute [local instance] Cert.KernelIdeal.Gen.facts

/-- Sixteen rows of a bin, from sixteen rows of the two gradients; `w` is the bin's number as a literal. -/
def binRows (g h : FVec Ideal S16x512 .f32) (w : BitVec 16) : FVec Ideal S16x512 .bf16 :=
  addf
    (select (cmpf .oeq (k0_pay12 (F := Ideal) g (k0_pay7 (F := Ideal) g h) (k0_pay8 (F := Ideal) h) k0_pay9) (broadcast S16x512 (Scalar.ofBits .bf16 w)))
      (k0_pay14 (k0_pay5 (F := Ideal) g) (k0_pay6 (F := Ideal) h)) (broadcast S16x512 (Scalar.ofBits .bf16 0x0000#16)))
    (select (cmpf .oeq (k0_pay13 (F := Ideal) g (k0_pay7 (F := Ideal) g h) (k0_pay8 (F := Ideal) h) k0_pay9) (broadcast S16x512 (Scalar.ofBits .bf16 w)))
      (k0_pay15 (k0_pay5 (F := Ideal) g) (k0_pay6 (F := Ideal) h)) (broadcast S16x512 (Scalar.ofBits .bf16 0x0000#16)))

theorem binRows_apply (g h : FVec Ideal S16x512 .f32) (w : BitVec 16) (p : Fin 16) (q : Fin 512) :
    binRows g h w (ix2 p q) = kPix (Ideal.ofBits .bf16 w) (g (ix2 p q)) (h (ix2 p q)) := rfl

/-- The bins' numbers as literals. -/
def binLit : Fin 11 → BitVec 16 :=
  ![0x0000#16, 0x3F80#16, 0x4000#16, 0x4040#16, 0x4080#16, 0x40A0#16, 0x40C0#16, 0x40E0#16, 0x4100#16, 0x4110#16, 0x4120#16]

theorem binLit_eq (b : Fin 11) : Ideal.ofBits .bf16 (binLit b) = (((b.val : ℤ) : ℝ) : EReal) := by
  fin_cases b <;> simp [binLit, Ideal.ofBits, Ideal.ieee, -EReal.coe_mul] <;> norm_num

/-- The contents of the bins buffer, from the two gradient images. -/
def binsBuf (gx gy : S512x512.Idx → EReal) (y : S5632x512.Idx) : EReal :=
  kPix (((((y 0).val / 512 : ℕ) : ℤ) : ℝ) : EReal)
    (gx (ix2 ⟨(y 0).val % 512, Nat.mod_lt _ (by decide)⟩ (y 1))) (gy (ix2 ⟨(y 0).val % 512, Nat.mod_lt _ (by decide)⟩ (y 1)))

section

variable (𝒱 : Variants) (c : Dev nD) (bd : Option 𝒱.V) (i : grid0.Coords)
    (arg1 : Memref sig .tc .vmem S1x1x512x512 .f32) (harg1 : arg1.IsWhole)
    (arg2 : Memref sig .tc .vmem S1x11x127x127 .f32) (harg2 : arg2.IsWhole)
    (arg3 : Memref sig .tc .vmem S5632x512 .bf16) (harg3 : arg3.IsWhole)
    (arg4 : Memref sig .tc .vmem S512x512 .f32) (harg4 : arg4.IsWhole)
    (arg5 : Memref sig .tc .vmem S512x512 .f32) (harg5 : arg5.IsWhole)
    (X4 : BufTy.Contents (Elt Ideal) arg4.view.ty) (X5 : BufTy.Contents (Elt Ideal) arg5.view.ty)

/-- The sixteen rows of a gradient image that trip `k` loads. -/
abbrev rows (k : Fin k0_t1_loop.trips) (arg : Memref sig .tc .vmem S512x512 .f32) (X : BufTy.Contents (Elt Ideal) arg.view.ty) :
    FVec Ideal S16x512 .f32 :=
  arg.view.readAt (Elt Ideal) (Rect.unit (s := S512x512) (k0_off1 k) ![16, 512] (k0_off1_inb k)).toLoadRect X

theorem rows_apply (k : Fin k0_t1_loop.trips) (arg : Memref sig .tc .vmem S512x512 .f32)
    (X : BufTy.Contents (Elt Ideal) arg.view.ty) (r : Fin 16) (q : Fin 512) (j : S512x512.Idx)
    (h0 : 16 * k.val + r.val = (j 0).val) (h1 : q.val = (j 1).val) :
    rows k arg X (ix2 r q) = arg.view.read (Elt Ideal) X j := by
  refine congrArg (arg.view.read (Elt Ideal) X) (funext fun a => Fin.ext ?_)
  refine (Rect.idx_unit_val _ _ _ _ _).trans ?_
  rw [congrFun (k0_off1_eq k) a]
  fin_cases a
  · exact h0
  · exact (Nat.zero_add _).trans h1

/-- A trip writes, for each of the eleven bins, the sixteen rows `binRows` of that bin. -/
theorem trip_pieces (k : Fin k0_t1_loop.trips) :
    (trip_k0_t1 (F := Ideal) 𝒱 c bd i arg1 harg1 arg2 harg2 arg3 harg3 arg4 harg4 arg5 harg5 X4 X5 k).1 =
      (List.finRange 11).reverse.map fun b =>
        ⟨Rect.unit (s := S5632x512) (k0_off2 k (BitVec.ofNat 32 (512 * b.val))) ![16, 512] (k0_off2_inb k b),
          shapeCast S16x512 (binRows (rows k arg4 X4) (rows k arg5 X5) (binLit b)) shapeCasts_S16x512_S16x512⟩ := by
  unfold trip_k0_t1
  rfl

/-- Every piece of a trip is the wanted contents on the rows that it writes. -/
theorem trip_piece_eq (k : Fin k0_t1_loop.trips) :
    ∀ p ∈ (trip_k0_t1 (F := Ideal) 𝒱 c bd i arg1 harg1 arg2 harg2 arg3 harg3 arg4 harg4 arg5 harg5 X4 X5 k).1,
      ∀ x : p.1.shape.Idx, p.2 x = binsBuf (arg4.view.read (Elt Ideal) X4) (arg5.view.read (Elt Ideal) X5) (p.1.emb x) := by
  have hk : k.val < 32 := Nat.lt_of_lt_of_le k.isLt k0_t1_abs.2.1
  rw [trip_pieces]
  intro p hp
  obtain ⟨b, -, rfl⟩ := List.mem_map.1 hp
  intro (x : S16x512.Idx)
  obtain ⟨r, q, rfl⟩ : ∃ (r : Fin 16) (q : Fin 512), x = ix2 r q := ⟨x 0, x 1, by funext a; fin_cases a <;> rfl⟩
  have hr := r.isLt
  have e2 := fun a => congrFun (k0_off2_eq k b) a
  have hrow : ∀ a, ((Rect.unit (s := S5632x512) (k0_off2 k (BitVec.ofNat 32 (512 * b.val))) ![16, 512] (k0_off2_inb k b)).emb
      (ix2 r q : S16x512.Idx) a).val = ![512 * b.val + 16 * k.val + r.val, q.val] a := by
    intro a
    refine (Rect.idx_unit_val _ _ _ _ _).trans ?_
    rw [e2]; fin_cases a
    · rfl
    · exact Nat.zero_add _
  refine (congrFun (shapeCast_self (binRows (rows k arg4 X4) (rows k arg5 X5) (binLit b)) shapeCasts_S16x512_S16x512)
    (ix2 r q)).trans ?_
  rw [binRows_apply, binLit_eq]
  have h0 := hrow 0
  have h1 := hrow 1
  unfold binsBuf
  congr 1
  · rw [h0]
    have : (512 * b.val + 16 * k.val + r.val) / 512 = b.val := by omega
    simp only [Matrix.cons_val_zero, this]
  all_goals
    refine rows_apply _ _ _ _ _ _ ?_ ?_
    · refine Eq.trans (b := (512 * b.val + 16 * k.val + r.val) % 512) (by omega) (congrArg (· % 512) h0.symm)
    · exact h1.symm

/-- The pieces of the first `n` trips: every piece is the wanted contents on its rows, and the rows of these trips are
all written. -/
theorem trips_pieces : ∀ n : ℕ, n ≤ k0_t1_loop.trips →
    (∀ p ∈ pb_k0_t1 (F := Ideal) 𝒱 c bd i arg1 harg1 arg2 harg2 arg3 harg3 arg4 harg4 arg5 harg5 X4 X5 n,
      ∀ x : p.1.shape.Idx, p.2 x = binsBuf (arg4.view.read (Elt Ideal) X4) (arg5.view.read (Elt Ideal) X5) (p.1.emb x)) ∧
    (∀ y : S5632x512.Idx, (y 0).val % 512 < 16 * n →
      ∃ p ∈ pb_k0_t1 (F := Ideal) 𝒱 c bd i arg1 harg1 arg2 harg2 arg3 harg3 arg4 harg4 arg5 harg5 X4 X5 n, y ∈ p.1.set)
  | 0, _ => ⟨fun p hp => absurd hp (by simp [pb_k0_t1]), fun y hy => absurd hy (by omega)⟩
  | n + 1, hn => by
    obtain ⟨h1, h2⟩ := trips_pieces n (by omega)
    rw [show n + 1 = (⟨n, hn⟩ : Fin k0_t1_loop.trips).val + 1 from rfl, pb_k0_t1_succ]
    refine ⟨fun p hp => ?_, fun y hy => ?_⟩
    · rcases List.mem_append.1 hp with h | h
      · exact trip_piece_eq _ _ _ _ _ _ _ _ _ _ _ _ _ _ _ _ _ p h
      · exact h1 p h
    · by_cases hlt : (y 0).val % 512 < 16 * n
      · obtain ⟨p, hp, hy⟩ := h2 y hlt
        exact ⟨p, List.mem_append.2 (.inr hp), hy⟩
      · have hy0 : (y 0).val < 5632 := (y 0).isLt
        have hy1 : (y 1).val < 512 := (y 1).isLt
        rw [tripL_k0_t1, trip_pieces]
        refine ⟨_, List.mem_append.2 (.inl (List.mem_map.2 ⟨⟨(y 0).val / 512, by omega⟩, by simp, rfl⟩)), ?_⟩
        rw [Rect.mem_set_unit]
        intro a
        rw [congrFun (k0_off2_eq _ _) a]
        fin_cases a
        · show 512 * ((y 0).val / 512) + 16 * n ≤ (y 0).val ∧ (y 0).val < 512 * ((y 0).val / 512) + 16 * n + 16
          have hy' : (y 0).val % 512 < 16 * (n + 1) := hy
          omega
        · exact ⟨Nat.zero_le _, by show (y 1).val < 0 + 512; omega⟩

/-- The bins buffer after the loop. -/
theorem loop_canon (y : S5632x512.Idx) :
    View.canon (pb_k0_t1 (F := Ideal) 𝒱 c bd i arg1 harg1 arg2 harg2 arg3 harg3 arg4 harg4 arg5 harg5 X4 X5
        (Scf.trips 0#32 (Scalar.addi 0#32 32#32) 1#32)) y
      = binsBuf (arg4.view.read (Elt Ideal) X4) (arg5.view.read (Elt Ideal) X5) y := by
  have hN : Scf.trips 0#32 (Scalar.addi 0#32 32#32) 1#32 = 32 := by decide
  obtain ⟨h1, h2⟩ := trips_pieces 𝒱 c bd i arg1 harg1 arg2 harg2 arg3 harg3 arg4 harg4 arg5 harg5 X4 X5
    (Scf.trips 0#32 (Scalar.addi 0#32 32#32) 1#32) le_rfl
  refine View.canon_apply_of_pieces _ _ h1 y (h2 y ?_)
  rw [hN]
  exact Nat.mod_lt _ (by decide)

end

end Cert.Hog.Ker

end
-- ==== Proof.Pool.lean ====
module

public import proofs.«01_k».proof.Proof.Trip

@[expose] public section

set_option maxRecDepth 16384

noncomputable section

/-! # The kernel's matrix products: two differences and a pooling

The kernel takes differences of neighbours and means over cells by products with constant matrices. Here each such sum
over all 512 rows or columns becomes a sum over the few whose weight is not zero. -/

namespace Cert.Hog.Ker

open Idealize.ShloMosaic Cert.KernelIdeal Cert.KernelIdeal.Gen

attribute [local instance] Cert.KernelIdeal.Gen.facts

/-! ## Words that count rows and columns -/

theorem ofNat_inj {a b : ℕ} (ha : a < 512) (hb : b < 512) : BitVec.ofNat 32 a = BitVec.ofNat 32 b ↔ a = b := by
  constructor
  · intro h
    have := congrArg BitVec.toNat h
    simp only [BitVec.toNat_ofNat] at this
    omega
  · rintro rfl; rfl

theorem eq_pred {a b : ℕ} (ha : a < 512) (hb : b < 512) :
    BitVec.ofNat 32 a = IntOp.subi (BitVec.ofNat 32 b) 1#32 ↔ a + 1 = b := by
  show BitVec.ofNat 32 a = BitVec.ofNat 32 b - 1#32 ↔ _
  constructor
  · intro h
    have := congrArg BitVec.toNat h
    simp only [BitVec.toNat_ofNat, BitVec.toNat_sub] at this
    omega
  · rintro rfl
    apply BitVec.eq_of_toNat_eq
    simp only [BitVec.toNat_ofNat, BitVec.toNat_sub]
    omega

theorem eq_succ {a b : ℕ} (ha : a < 512) (hb : b < 512) :
    BitVec.ofNat 32 a = IntOp.addi (BitVec.ofNat 32 b) 1#32 ↔ a = b + 1 := by
  show BitVec.ofNat 32 a = BitVec.ofNat 32 b + 1#32 ↔ _
  constructor
  · intro h
    have := congrArg BitVec.toNat h
    simp only [BitVec.toNat_ofNat, BitVec.toNat_add] at this
    omega
  · rintro rfl
    apply BitVec.eq_of_toNat_eq
    simp only [BitVec.toNat_ofNat, BitVec.toNat_add]
    omega

theorem select_eq {α : Type} (x y : BitVec 32) (a b : α) :
    Scalar.select (IntOp.cmpi .eq x y) a b = if x = y then a else b := by
  show Scalar.select (BitVec.ofBool (x == y)) a b = _
  rw [show (x == y) = decide (x = y) from rfl, select_ofBool]

/-! ## The two gradient images -/

/-- A sum with the weights `1` at `a`, `-1` at `b` and `0` elsewhere. -/
theorem sum_pair (w f : Fin 512 → EReal) {a b : Fin 512} (hab : a ≠ b) (ha : w a = 1) (hb : w b = -1)
    (h0 : ∀ k, k ≠ a → k ≠ b → w k = 0) : ∑ k, w k * f k = f a - f b := by
  rw [Fintype.sum_eq_add a b hab fun k hk => by rw [h0 k hk.1 hk.2, zero_mul], ha, hb, one_mul, neg_mul, one_mul]
  rfl

theorem gx_apply (x : Vec Ideal S1x1x512x512 .f32) (i : Fin 512) (q : Fin 510) :
    k0_pay34 (F := Ideal) x (ix2 i ⟨q.val + 1, by omega⟩)
      = x (ix4 0 0 i ⟨q.val, by omega⟩) - x (ix4 0 0 i ⟨q.val + 2, by omega⟩) := by
  have hq := q.isLt
  unfold_payloads
  pointwise
  simp only [select_eq]
  refine (Finset.sum_congr rfl fun k _ => mul_comm _ _).trans ?_
  refine sum_pair _ (fun k => x (ix4 0 0 i k)) (a := ⟨q.val, by omega⟩) (b := ⟨q.val + 2, by omega⟩) ?_ ?_ ?_ ?_
  · simp [Fin.ext_iff]
  · rw [if_pos ((eq_pred (a := q.val) (b := q.val + 1) (by omega) (by omega)).2 rfl), if_neg, sub_zero]
    rw [eq_succ (by omega) (by omega)]; simp only; omega
  · rw [if_neg, if_pos ((eq_succ (a := q.val + 2) (b := q.val + 1) (by omega) (by omega)).2 rfl), zero_sub]
    rw [eq_pred (by omega) (by omega)]; simp only; omega
  · intro k ha hb
    have hk := k.isLt
    rw [Ne, Fin.ext_iff] at ha hb
    simp only at ha hb
    rw [if_neg, if_neg, sub_zero]
    · rw [eq_succ (by omega) (by omega)]; omega
    · rw [eq_pred (by omega) (by omega)]; omega

theorem gy_apply (x : Vec Ideal S1x1x512x512 .f32) (p : Fin 510) (j : Fin 512) :
    k0_pay35 (F := Ideal) x (ix2 ⟨p.val + 1, by omega⟩ j)
      = x (ix4 0 0 ⟨p.val, by omega⟩ j) - x (ix4 0 0 ⟨p.val + 2, by omega⟩ j) := by
  have hp := p.isLt
  unfold_payloads
  pointwise
  simp only [select_eq]
  refine sum_pair _ (fun k => x (ix4 0 0 k j)) (a := ⟨p.val, by omega⟩) (b := ⟨p.val + 2, by omega⟩) ?_ ?_ ?_ ?_
  · simp [Fin.ext_iff]
  · rw [if_pos ((eq_succ (by omega) (by omega)).2 rfl), if_neg, sub_zero]
    rw [eq_pred (by omega) (by omega)]; simp only; omega
  · rw [if_neg, if_pos ((eq_pred (by omega) (by omega)).2 rfl), zero_sub]
    rw [eq_succ (by omega) (by omega)]; simp only; omega
  · intro k ha hb
    have hk := k.isLt
    rw [Ne, Fin.ext_iff] at ha hb
    simp only at ha hb
    rw [if_neg, if_neg, sub_zero]
    · rw [eq_pred (by omega) (by omega)]; omega
    · rw [eq_succ (by omega) (by omega)]; omega

/-! ## The pooling -/

/-- The number of the cell that row or column `j` belongs to, as the kernel computes it: `(j - 1) / 4` rounded down. -/
def cellOf (j : BitVec 32) : BitVec 32 :=
  Scalar.select
    (IntOp.andi
      (IntOp.cmpi .ne
        (IntOp.subi (BitVec.setWidth 32 (IntOp.cmpi .sgt (IntOp.subi j 1#32) 0#32))
          (BitVec.setWidth 32 (IntOp.cmpi .slt (IntOp.subi j 1#32) 0#32)))
        (Scalar.subi (Scalar.extui (Scalar.cmpi .sgt 4#32 0#32)) (Scalar.extui (Scalar.cmpi .slt 4#32 0#32))))
      (IntOp.cmpi .ne (IntOp.remsi .vector (IntOp.subi j 1#32) 4#32) 0#32))
    (IntOp.subi (IntOp.divsi .vector (IntOp.subi j 1#32) 4#32) 1#32)
    (IntOp.divsi .vector (IntOp.subi j 1#32) 4#32)

/-- Whether row or column `j` belongs to a cell at all. -/
def inCells (j : BitVec 32) : BitVec 1 := IntOp.andi (IntOp.cmpi .sge j 1#32) (IntOp.cmpi .sle j 508#32)

theorem cellOf_eq : ∀ j : Fin 512, 1 ≤ j.val → cellOf (BitVec.ofNat 32 j.val) = BitVec.ofNat 32 ((j.val - 1) / 4) := by
  decide +kernel

theorem inCells_eq : ∀ j : Fin 512, inCells (BitVec.ofNat 32 j.val) = BitVec.ofBool (decide (1 ≤ j.val ∧ j.val ≤ 508)) := by
  decide +kernel

/-- The weight of row or column `j` in cell `r`. -/
def wt (r : Fin 127) (j : Fin 512) : EReal := if 4 * r.val + 1 ≤ j.val ∧ j.val < 4 * r.val + 5 then ((1 / 4 : ℝ) : EReal) else 0

theorem wt_eq (r : Fin 127) (j : Fin 512) :
    Scalar.select (inCells (BitVec.ofNat 32 j.val))
      (Scalar.select (IntOp.cmpi .eq (cellOf (BitVec.ofNat 32 j.val)) (BitVec.ofNat 32 r.val)) (Ideal.ofBits .f32 0x3E800000#32) 0) 0
      = wt r j := by
  have hr := r.isLt
  have hj := j.isLt
  rw [inCells_eq, select_ofBool, select_eq, lit_quarter, wt]
  by_cases h : 1 ≤ j.val ∧ j.val ≤ 508
  · rw [if_pos h, cellOf_eq j h.1]
    refine if_congr ?_ rfl rfl
    rw [ofNat_inj (by omega) (by omega)]
    omega
  · rw [if_neg h, if_neg]
    omega

/-- The pooling matrix of the rows, as the kernel makes it. -/
def rowW : FVec Ideal S127x512 .f32 :=
  k0_pay44 (F := Ideal) (iota .tc S127x512 32 [0] iota_S127x512_d0_w32) (iota .tc S127x512 32 [1] iota_S127x512_d1_w32)
    k0_pay40 4#32 k0_pay41 k0_pay42 k0_pay43

/-- The pooling matrix of the columns, as the kernel makes it. -/
def colW : FVec Ideal S512x127 .bf16 :=
  k0_pay39 (F := Ideal) (iota .tc S512x127 32 [0] iota_S512x127_d0_w32) (iota .tc S512x127 32 [1] iota_S512x127_d1_w32)
    k0_pay37 4#32 k0_pay38 0#32

theorem rowW_apply (r : Fin 127) (i : Fin 512) : rowW (ix2 r i) = wt r i := by
  rw [← wt_eq]
  unfold rowW
  unfold_payloads
  pointwise
  rfl

theorem colW_apply (j : Fin 512) (c : Fin 127) : colW (ix2 j c) = wt c j := by
  rw [← wt_eq]
  unfold colW
  unfold_payloads
  pointwise
  rfl

/-- The `a`-th row or column of cell `r`. -/
def px (r : Fin 127) (a : Fin 4) : Fin 512 := ⟨4 * r.val + a.val + 1, by omega⟩

theorem sum_wt (r : Fin 127) (f : Fin 512 → EReal) :
    ∑ j, wt r j * f j = ∑ a, ((1 / 4 : ℝ) : EReal) * f (px r a) := by
  refine (Fintype.sum_of_injective (px r) ?_ _ _ ?_ ?_).symm
  · intro a b h
    have := congrArg Fin.val h
    simp only [px] at this
    exact Fin.ext (by omega)
  · intro j hj
    rw [wt, if_neg, zero_mul]
    rintro ⟨h1, h2⟩
    exact hj ⟨⟨j.val - (4 * r.val + 1), by omega⟩, Fin.ext (by simp only [px]; omega)⟩
  · intro a
    have ha := a.isLt
    rw [wt, if_pos]
    simp only [px]; omega

/-- The block of the result of one bin: the rows of that bin in the bins buffer `B`, pooled. -/
def outBlock (B : FVec Ideal S5632x512 .bf16) (b : Fin 11) (h : Shape.Slices S5632x127 ![512 * b.val, 0] S512x127) :
    FVec Ideal S1x1x127x127 .f32 :=
  shapeCast S1x1x127x127
    (matmul dot_S127x512_S512x127_S127x127_1_0_0_1_n_n none rowW
      (extractStridedSlice S512x127 ![512 * b.val, 0] (k0_pay45 (F := Ideal) colW B) h) (constant S127x127 .f32 0x00000000#32))
    shapeCasts_S127x127_S1x1x127x127

theorem outBlock_apply (B : FVec Ideal S5632x512 .bf16) (b : Fin 11) (h : Shape.Slices S5632x127 ![512 * b.val, 0] S512x127)
    (r c : Fin 127) :
    outBlock B b h (ix4 0 0 r c)
      = ∑ a1, ((1 / 4 : ℝ) : EReal) * ∑ a2, ((1 / 4 : ℝ) : EReal)
          * B (ix2 ⟨512 * b.val + (px r a1).val, by have := (px r a1).isLt; omega⟩ (px c a2)) := by
  unfold outBlock
  unfold_payloads
  pointwise
  simp only [rowW_apply, colW_apply]
  rw [sum_wt]
  refine Finset.sum_congr rfl fun a1 _ => congrArg _ ?_
  rw [← sum_wt c fun j => B (ix2 ⟨512 * b.val + (px r a1).val, by have := (px r a1).isLt; omega⟩ j)]
  exact Finset.sum_congr rfl fun j _ => mul_comm _ _

end Cert.Hog.Ker

end
-- ==== Proof.Kernel.lean ====
module

public import proofs.«01_k».proof.Proof.Cells
public import proofs.«01_k».proof.Proof.Pool

@[expose] public section

set_option maxRecDepth 16384

noncomputable section

/-! # The kernel's result is the histogram -/

namespace Cert.Hog.Ker

open Idealize.ShloMosaic Cert.KernelIdeal Cert.KernelIdeal.Gen Idealize.SL.Sem

attribute [local instance] Cert.KernelIdeal.Gen.facts

theorem out_inb (b : Fin 11) : ∀ a, (![0, b.val, 0, 0] : Fin 4 → ℕ) a + (![1, 1, 127, 127] : Fin 4 → ℕ) a ≤ S1x11x127x127.size a := by
  revert b; decide +kernel

theorem bin_slices (b : Fin 11) : Shape.Slices S5632x127 ![512 * b.val, 0] S512x127 := by
  revert b; decide +kernel

section

variable (c : Dev nD) (i : grid0.Coords)
    (arg1 : Memref sig .tc .vmem S1x1x512x512 .f32) (harg1 : arg1.IsWhole)
    (arg2 : Memref sig .tc .vmem S1x11x127x127 .f32) (harg2 : arg2.IsWhole)
    (arg3 : Memref sig .tc .vmem S5632x512 .bf16) (harg3 : arg3.IsWhole)
    (arg4 : Memref sig .tc .vmem S512x512 .f32) (harg4 : arg4.IsWhole)
    (arg5 : Memref sig .tc .vmem S512x512 .f32) (harg5 : arg5.IsWhole) (x0 : Vec Ideal S1x1x512x512 .f32)

/-- The image block as the body loads it. -/
def loaded : Vec Ideal S1x1x512x512 .f32 :=
  arg1.view.readAt (Elt Ideal) (Rect.unit (s := S1x1x512x512) ![0, 0, 0, 0] ![1, 1, 512, 512] inb_S1x1x512x512_S1x1x512x512_0_0_0_0).toLoadRect
    (harg1.unread x0)

theorem loaded_eq : loaded arg1 harg1 x0 = x0 := by
  unfold loaded
  rw [View.readAt_eq_ld, harg1.read_unread]
  exact View.ld_unit_zero (by funext a; fin_cases a <;> rfl) _ _

/-- The bins buffer, as the body loads it after the loop. -/
def loadedBins : FVec Ideal S5632x512 .bf16 :=
  arg3.view.readCov
    (pb_k0_t1 (F := Ideal) Variants.none c none i arg1 harg1 arg2 harg2 arg3 harg3 arg4 harg4 arg5 harg5
      (arg4.view.writes (Elt Ideal) arg4.view.junk
        [⟨Rect.unit (s := S512x512) ![0, 0] ![512, 512] inb_S512x512_S512x512_0_0, k0_pay34 (F := Ideal) (loaded arg1 harg1 x0)⟩])
      (arg5.view.writes (Elt Ideal) arg5.view.junk
        [⟨Rect.unit (s := S512x512) ![0, 0] ![512, 512] inb_S512x512_S512x512_0_0, k0_pay35 (F := Ideal) (loaded arg1 harg1 x0)⟩])
      (Scf.trips 0#32 (Scalar.addi 0#32 32#32) 1#32))
    (Rect.unit (s := S5632x512) ![0, 0] ![5632, 512] inb_S5632x512_S5632x512_0_0).toLoadRect

theorem loadedBins_eq :
    loadedBins c i arg1 harg1 arg2 harg2 arg3 harg3 arg4 harg4 arg5 harg5 x0
      = binsBuf (k0_pay34 (F := Ideal) x0) (k0_pay35 (F := Ideal) x0) := by
  unfold loadedBins
  rw [View.readCov_eq_canon', loaded_eq]
  funext y
  rw [loop_canon, View.read_writes_junk_eq_canon, View.read_writes_junk_eq_canon]
  have h0 : (![0, 0] : Fin 2 → ℕ) = fun _ => 0 := by funext a; fin_cases a <;> rfl
  rw [View.canon_unit_zero (S := S512x512) h0, View.canon_unit_zero (S := S512x512) h0]
  refine congrArg _ (funext fun a => Fin.ext ?_)
  refine (Rect.idx_unit_val _ _ _ _ _).trans ?_
  fin_cases a <;> exact Nat.zero_add _

/-- The body writes eleven blocks, one per bin. -/
theorem run_pieces :
    (kernelRun0_A (F := Ideal) c i arg1 harg1 arg2 harg2 arg3 harg3 arg4 harg4 arg5 harg5 x0).1 =
      (List.finRange 11).reverse.map fun b =>
        ⟨Rect.unit (s := S1x11x127x127) ![0, b.val, 0, 0] ![1, 1, 127, 127] (out_inb b),
          outBlock (loadedBins c i arg1 harg1 arg2 harg2 arg3 harg3 arg4 harg4 arg5 harg5 x0) b (bin_slices b)⟩ := by
  unfold kernelRun0_A
  rfl

/-- The body's result at an index. -/
theorem out_apply (b : Fin 11) (r q : Fin 127) :
    out0_A_1 (F := Ideal) c i arg1 harg1 arg2 harg2 arg3 harg3 arg4 harg4 arg5 harg5 x0 (ix4 0 b r q)
      = outBlock (binsBuf (k0_pay34 (F := Ideal) x0) (k0_pay35 (F := Ideal) x0)) b (bin_slices b) (ix4 0 0 r q) := by
  unfold out0_A_1
  rw [View.read_writes_junk_eq_canon, ← loadedBins_eq c i arg1 harg1 arg2 harg2 arg3 harg3 arg4 harg4 arg5 harg5 x0]
  refine View.canon_apply_of_pieces (fun y : S1x11x127x127.Idx =>
      outBlock (loadedBins c i arg1 harg1 arg2 harg2 arg3 harg3 arg4 harg4 arg5 harg5 x0) (y 1) (bin_slices (y 1))
        (ix4 0 0 (y 2) (y 3))) _ ?_ (ix4 0 b r q) (cover0_A_1 c i arg1 harg1 arg2 harg2 arg3 harg3 arg4 harg4 arg5 harg5 x0 _)
  rw [run_pieces]
  intro p hp
  obtain ⟨b, -, rfl⟩ := List.mem_map.1 hp
  intro (x : S1x1x127x127.Idx)
  obtain ⟨u, v, s, t, rfl⟩ : ∃ (u v : Fin 1) (s t : Fin 127), x = ix4 u v s t :=
    ⟨x 0, x 1, x 2, x 3, by funext a; fin_cases a <;> rfl⟩
  have e : (Rect.unit (s := S1x11x127x127) ![0, b.val, 0, 0] ![1, 1, 127, 127] (out_inb b)).emb
      (ix4 u v s t : S1x1x127x127.Idx) = (ix4 0 b s t : S1x11x127x127.Idx) := by
    funext a
    refine Fin.ext ((Rect.idx_unit_val _ _ _ _ _).trans ?_)
    fin_cases a
    · show 0 + u.val = 0
      omega
    · show b.val + v.val = b.val
      omega
    · exact Nat.zero_add _
    · exact Nat.zero_add _
  rw [Subsingleton.elim u 0, Subsingleton.elim v 0] at e ⊢
  rw [e]
  rfl

end

/-! ## The whole array -/

section

variable (m : (ℓ : Loc nD τ sig) → Buf (Elt Ideal) ℓ) (c : Dev nD)

/-- The grid point of image `n`. -/
abbrev point (n : Fin 16) : Fin cfg0.N := ⟨n.val, by have : cfg0.N = 16 := by decide
                                                     omega⟩

theorem index_in : ∀ (t : Fin grid0.N) (a : Fin 4), win0_0.index t a = (![t.val, 0, 0, 0] : Fin 4 → ℕ) a := by decide +kernel
theorem index_out : ∀ (t : Fin grid0.N) (a : Fin 4), win0_1.index t a = (![t.val, 0, 0, 0] : Fin 4 → ℕ) a := by decide +kernel

theorem block_apply (n : Fin 16) (p q : Fin 512) :
    iblk m c 0 (point n) (ix4 0 0 p q) = m ((c.tc : Thread nD τ).loc main_arg0) (ix4 n 0 p q) := by
  refine congrArg (m ((c.tc : Thread nD τ).loc main_arg0)) (funext fun a => Fin.ext ?_)
  refine (Rect.idx_unit_val _ _ _ _ _).trans ?_
  show win0_0.index (point n) a * _ + _ = _
  rw [index_in]
  fin_cases a
  · show n.val * 1 + 0 = n.val
    omega
  · rfl
  · show 0 * 512 + p.val = p.val
    omega
  · show 0 * 512 + q.val = q.val
    omega

theorem arr_apply (n : Fin 16) (b : Fin 11) (r q : Fin 127) :
    (dats m 0 c).arrAt 1 cfg0.N (ix4 n b r q)
      = outBlock (binsBuf (k0_pay34 (F := Ideal) (iblk m c 0 (point n))) (k0_pay35 (F := Ideal) (iblk m c 0 (point n)))) b
          (bin_slices b) (ix4 0 0 r q) := by
  have h := congrFun (Cert.KernelIdeal.Value.blocks1 m c (point n) (flush0_1 _)) (ix4 0 b r q)
  rw [Cert.KernelIdeal.Value.flushed1_A] at h
  refine Eq.trans (Eq.trans (congrArg ((dats m 0 c).arrAt 1 cfg0.N) (funext fun a => Fin.ext ?_)) h) ?_
  · refine Eq.trans ?_ (Rect.idx_unit_val _ _ _ _ _).symm
    show _ = win0_1.index (point n) a * _ + _
    rw [index_out]
    fin_cases a
    · show n.val = n.val * 1 + 0
      omega
    · show b.val = 0 * 11 + b.val
      omega
    · show r.val = 0 * 127 + r.val
      omega
    · show q.val = 0 * 127 + q.val
      omega
  · exact out_apply _ _ _ _ _ _ _ _ _ _ _ _ _ b r q

/-- The gradients of the pixel of image `n` at row `a1` and column `a2` of cell `(r, q)`, and what it puts into bin `b`. -/
theorem bins_apply (n : Fin 16) (b : Fin 11) (r q : Fin 127) (a1 a2 : Fin 4) (hlt : 512 * b.val + (px r a1).val < 5632) :
    binsBuf (k0_pay34 (F := Ideal) (iblk m c 0 (point n))) (k0_pay35 (F := Ideal) (iblk m c 0 (point n)))
        (ix2 ⟨512 * b.val + (px r a1).val, hlt⟩ (px q a2))
      = kPix (((b.val : ℤ) : ℝ) : EReal)
          (gradX (m ((c.tc : Thread nD τ).loc main_arg0)) n (tap r a1) (tap q a2))
          (gradY (m ((c.tc : Thread nD τ).loc main_arg0)) n (tap r a1) (tap q a2)) := by
  have hp := (px r a1).isLt
  have e1 : (512 * b.val + (px r a1).val) / 512 = b.val := by omega
  have e2 : (⟨(512 * b.val + (px r a1).val) % 512, Nat.mod_lt _ (by decide)⟩ : Fin 512) = px r a1 := Fin.ext (by simp only; omega)
  show kPix (((((512 * b.val + (px r a1).val) / 512 : ℕ) : ℤ) : ℝ) : EReal)
    (k0_pay34 (F := Ideal) (iblk m c 0 (point n)) (ix2 (⟨(512 * b.val + (px r a1).val) % 512, Nat.mod_lt _ (by decide)⟩ : Fin 512) (px q a2)))
    (k0_pay35 (F := Ideal) (iblk m c 0 (point n)) (ix2 (⟨(512 * b.val + (px r a1).val) % 512, Nat.mod_lt _ (by decide)⟩ : Fin 512) (px q a2))) = _
  rw [e1, e2]
  have hx := gx_apply (iblk m c 0 (point n)) (px r a1) (tap q a2)
  have hy := gy_apply (iblk m c 0 (point n)) (tap r a1) (px q a2)
  rw [block_apply, block_apply] at hx hy
  exact congrArg₂ _ hx hy

/-- On clear cells the kernel's result is the histogram. -/
theorem res_apply (n : Fin 16) (b : Fin 11) (r q : Fin 127)
    (h : ClearCell (m ((c.tc : Thread nD τ).loc main_arg0)) n r q) :
    (dats m 0 c).arrAt 1 cfg0.N (ix4 n b r q) = hog (m ((c.tc : Thread nD τ).loc main_arg0)) n b.val r q := by
  rw [arr_apply, outBlock_apply]
  have e : ∀ a1 a2 : Fin 4, ((1 / 4 : ℝ) : EReal) * kPix (((b.val : ℤ) : ℝ) : EReal)
      (gradX (m ((c.tc : Thread nD τ).loc main_arg0)) n (tap r a1) (tap q a2))
      (gradY (m ((c.tc : Thread nD τ).loc main_arg0)) n (tap r a1) (tap q a2))
      = ((1 / 4 * pix b.val (gradX (m ((c.tc : Thread nD τ).loc main_arg0)) n (tap r a1) (tap q a2)).toReal
          (gradY (m ((c.tc : Thread nD τ).loc main_arg0)) n (tap r a1) (tap q a2)).toReal : ℝ) : EReal) := by
    intro a1 a2
    obtain ⟨y, x, e1, e2, hc⟩ := h a1 a2
    rw [e1, e2, kPix_coe hc, EReal.toReal_coe, EReal.toReal_coe, EReal.coe_mul]
  simp only [bins_apply, e, coe_sum, ← EReal.coe_mul]
  unfold hog
  refine congrArg _ ?_
  simp only [← Finset.mul_sum]
  ring

end

end Cert.Hog.Ker

end
-- ==== Proof.lean ====
/- The proof of the five claims: the three frames, `preserves`, and the agreement of kernel and reference on the clear
   cells. The work is in Proof/: the real numbers (Angle, Bins), one pixel (Pixel), the cells (Cells), the reference
   (Reference), the mask (Mask), and the kernel (Trip, Pool, Kernel). -/
module

public import proofs.«01_k».proof.Defs
public import proofs.«01_k».proof.Proof.Reference
public import proofs.«01_k».proof.Proof.Mask
public import proofs.«01_k».proof.Proof.Kernel
public import proofs.«01_k».proof.Proof.Gen.KernelIdeal.Value
public import proofs.«01_k».proof.Proof.Gen.ReferenceIdeal.Run
public import proofs.«01_k».proof.Proof.Gen.On_clear_cells
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Hog

attribute [local instance] Cert.Kernel.Gen.facts Cert.KernelIdeal.Gen.facts Cert.ReferenceIdeal.Gen.facts
  Cert.On_clear_cells.Gen.facts

theorem frame_kernel : Cert.quiescent_Kernel := fun m ρ _ => Cert.Kernel.Gen.frame m ρ

theorem frame_ideal : Cert.quiescent_KernelIdeal := fun m ρ _ => Cert.KernelIdeal.Gen.frame m ρ

/-- The reference is host code: it leaves its argument alone and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On the clear cells both results are the histogram. -/
theorem algebraic : Cert.algebraic_KernelIdeal_ReferenceIdeal_on_clear_cells := by
  intro m ρ m' ρ' _ hagree
  refine ⟨fun c => (Cert.KernelIdeal.Gen.dats m 0 c).arrAt 1 Cert.KernelIdeal.cfg0.N, ?_, ?_⟩
  · exact (θ_run Cert.KernelIdeal.defs _ _).mono (fun r h c => ⟨fun i _ => congrFun (h c).1 i, (h c).2⟩)
      (Cert.KernelIdeal.Value.run_blocks (F := Ideal) m ρ)
  · refine (θ_run Cert.ReferenceIdeal.defs _ _).mono (fun r h c => ⟨fun i hi => (congrFun (h c).1 i).trans ?_, (h c).2⟩)
      (Cert.ReferenceIdeal.Value.run (F := Ideal) m' ρ')
    obtain ⟨n, k, p, q, rfl⟩ : ∃ (n : Fin 16) (k : Fin 11) (p q : Fin 127), i = ix4 n k p q :=
      ⟨i 0, i 1, i 2, i 3, by funext a; fin_cases a <;> rfl⟩
    have hc := Mask.mask_cell _ n k p q hi
    refine Eq.trans ?_ (Ker.res_apply m c n k p q hc).symm
    refine (congrFun (Ref.res_eq m' c) _).trans ?_
    rw [hagree c]
    exact Ref.res_apply _ n k p q hc

theorem claim : Cert.Claim :=
  ⟨Cert.Kernel.Gen.facts, Cert.KernelIdeal.Gen.facts, Cert.ReferenceIdeal.Gen.facts, Cert.On_clear_cells.Gen.facts,
    frame_kernel, frame_ideal, frame_reference, trivial, algebraic⟩

end Cert.Proof

end
